-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_representable [hPre_representable : Cert.Pre_representable.Facts] (m : (ℓ : Loc Cert.KernelIdeal.nD Cert.KernelIdeal.τ Cert.KernelIdeal.sig) → Buf (Elt Ideal) ℓ) : Prop :=
  ∀ c : Dev Cert.KernelIdeal.nD,
    (Cert.Pre_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_representable [hPre_representable : Cert.Pre_representable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_representable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_representable [hKernelIdeal : Cert.KernelIdeal.Facts] [hPre_representable : Cert.Pre_representable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_representable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_representable [hReferenceIdeal : Cert.ReferenceIdeal.Facts] [hPre_representable : Cert.Pre_representable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_representable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d" .f32 0x396A0EA1#32 ((1 / 4480 : ℝ) : EReal)

def algebraic_KernelIdeal_ReferenceIdeal_pre_representable [hKernelIdeal : Cert.KernelIdeal.Facts] [hReferenceIdeal : Cert.ReferenceIdeal.Facts] [hPre_representable : Cert.Pre_representable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_representable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_representable : Cert.Pre_representable.Facts),
    quiescent_Kernel (hKernel := hKernel)
    ∧ quiescent_KernelIdeal (hKernelIdeal := hKernelIdeal)
    ∧ quiescent_KernelIdeal_pre_representable (hKernelIdeal := hKernelIdeal) (hPre_representable := hPre_representable)
    ∧ quiescent_ReferenceIdeal (hReferenceIdeal := hReferenceIdeal)
    ∧ quiescent_ReferenceIdeal_pre_representable (hReferenceIdeal := hReferenceIdeal) (hPre_representable := hPre_representable)
    ∧ preserves_Kernel_KernelIdeal
    ∧ algebraic_KernelIdeal_ReferenceIdeal_pre_representable (hKernelIdeal := hKernelIdeal) (hReferenceIdeal := hReferenceIdeal) (hPre_representable := hPre_representable)
-- ==== Pre_representable.lean ====
abbrev S8x2048x4480 : Shape := ⟨3, ![8, 2048, 4480]⟩
abbrev S4480 : Shape := ⟨1, ![4480]⟩
abbrev S4480x6016 : Shape := ⟨2, ![4480, 6016]⟩
abbrev S6016 : Shape := ⟨1, ![6016]⟩
abbrev S_ : Shape := ⟨0, ![]⟩
abbrev S8x2048 : Shape := ⟨2, ![8, 2048]⟩
abbrev S8x2048x1 : Shape := ⟨3, ![8, 2048, 1]⟩
abbrev S1x1x4480 : Shape := ⟨3, ![1, 1, 4480]⟩

class Facts : Prop where
  bitsLt_bf16_f32 : FTy.bits .bf16 < FTy.bits .f32
  reducesTo_S8x2048x4480_S8x2048_d2 : S8x2048x4480.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x4480_0_1_2 : S8x2048x1.BroadcastsInDim S8x2048x4480 (![0, 1, 2] : Fin 3 → Fin S8x2048x4480.rank)
  bcast_S4480_S1x1x4480_2 : S4480.BroadcastsInDim S1x1x4480 (![2] : Fin 1 → Fin S1x1x4480.rank)
  bcast_S1x1x4480_S8x2048x4480_0_1_2 : S1x1x4480.BroadcastsInDim S8x2048x4480 (![0, 1, 2] : Fin 3 → Fin S8x2048x4480.rank)
  bcast_S_S4480 : S_.BroadcastsInDim S4480 (![] : Fin 0 → Fin S4480.rank)
  reducesTo_S4480_S_d0 : S4480.ReducesTo [0] S_
  reducesTo_S8x2048x1_S_d0_1_2 : S8x2048x1.ReducesTo [0, 1, 2] S_

variable [Facts]

def fn_part2 {F : FTy → Type} [FloatOps F] (main_v34 : IVec S_ 1) (main_v35 : IVec S8x2048x1 1) (main_c_9 : IVec S_ 1) : IVec S_ 1 :=
  let main_v36 : IVec S_ 1 := (fun x v => Host.reduce IntOp.andi x v reducesTo_S8x2048x1_S_d0_1_2 h_S_) main_v35 main_c_9
  let main_v37 : IVec S_ 1 := andi main_v34 main_v36
  main_v37

def fn_part1 {F : FTy → Type} [FloatOps F] (main_arg2 : FVec F S4480 .f32) (main_v19 : FVec F S8x2048x1 .f32) : IVec S_ 1 :=
  let main_cst_3 : FVec F S_ .f32 := constant S_ .f32 0x3B124925#32
  let main_v20 : FVec F S8x2048x1 .f32 := broadcastInDim S8x2048x1 ![] bcast_S_S8x2048x1 main_cst_3
  let main_v21 : FVec F S8x2048x1 .f32 := mulf main_v19 main_v20
  let main_cst_4 : FVec F S_ .f32 := constant S_ .f32 0x7E800000#32
  let main_v22 : FVec F S8x2048x1 .f32 := broadcastInDim S8x2048x1 ![] bcast_S_S8x2048x1 main_cst_4
  let main_v23 : IVec S8x2048x1 1 := cmpf .olt main_v21 main_v22
  let main_cst_5 : FVec F S_ .f32 := constant S_ .f32 0x7F800000#32
  let main_v24 : FVec F S8x2048x1 .f32 := broadcastInDim S8x2048x1 ![] bcast_S_S8x2048x1 main_cst_5
  let main_v25 : IVec S8x2048x1 1 := cmpf .oeq main_v19 main_v24
  let main_v26 : IVec S8x2048x1 1 := ori main_v23 main_v25
  let main_cst_6 : FVec F S_ .f32 := constant S_ .f32 0x00000000#32
  let main_v27 : FVec F S8x2048x1 .f32 := broadcastInDim S8x2048x1 ![] bcast_S_S8x2048x1 main_cst_6
  let main_v28 : IVec S8x2048x1 1 := cmpf .oeq main_v19 main_v27
  let main_cst_7 : FVec F S_ .f32 := constant S_ .f32 0x00800000#32
  let main_v29 : FVec F S8x2048x1 .f32 := broadcastInDim S8x2048x1 ![] bcast_S_S8x2048x1 main_cst_7
  let main_v30 : IVec S8x2048x1 1 := cmpf .oge main_v21 main_v29
  let main_v31 : IVec S8x2048x1 1 := ori main_v28 main_v30
  let main_cst_8 : FVec F S_ .f32 := constant S_ .f32 0x00000000#32
  let main_v32 : FVec F S4480 .f32 := broadcastInDim S4480 ![] bcast_S_S4480 main_cst_8
  let main_v33 : IVec S4480 1 := cmpf .une main_arg2 main_v32
  let main_c : IVec S_ 1 := constantI S_ 1 1#1
  let main_v34 : IVec S_ 1 := (fun x v => Host.reduce IntOp.andi x v reducesTo_S4480_S_d0 h_S_) main_v33 main_c
  let main_v35 : IVec S8x2048x1 1 := andi main_v26 main_v31
  let main_c_9 : IVec S_ 1 := constantI S_ 1 1#1
  fn_part2 (F := F) main_v34 main_v35 main_c_9

def fn {F : FTy → Type} [FloatOps F] (main_arg0 : FVec F S8x2048x4480 .bf16) (main_arg1 : FVec F S4480 .f32) (main_arg2 : FVec F S4480 .f32) (main_arg3 : FVec F S4480x6016 .fp8e4m3) (main_arg4 : FVec F S6016 .f32) : IVec S_ 1 :=
  let main_v0 : FVec F S8x2048x4480 .f32 := (extf .f32 · bitsLt_bf16_f32) main_arg0
  let main_v1 : FVec F S8x2048x4480 .f32 := mulf main_v0 main_v0
  let main_cst : FVec F S_ .f32 := constant S_ .f32 0x00000000#32
  let main_v2 : FVec F S8x2048 .f32 := (fun x v => Host.reduceAdd x v reducesTo_S8x2048x4480_S8x2048_d2 h_S_) main_v1 main_cst
  let main_v3 : FVec F S8x2048x1 .f32 := broadcastInDim S8x2048x1 ![0, 1] bcast_S8x2048_S8x2048x1_0_1 main_v2
  let main_cst_0 : FVec F S_ .f32 := constant S_ .f32 0x458C0000#32
  let main_v4 : FVec F S8x2048x1 .f32 := broadcastInDim S8x2048x1 ![] bcast_S_S8x2048x1 main_cst_0
  let main_v5 : FVec F S8x2048x1 .f32 := Host.divf main_v3 main_v4
  let main_cst_1 : FVec F S_ .f32 := constant S_ .f32 0x358637BD#32
  let main_v6 : FVec F S8x2048x1 .f32 := broadcastInDim S8x2048x1 ![] bcast_S_S8x2048x1 main_cst_1
  let main_v7 : FVec F S8x2048x1 .f32 := addf main_v5 main_v6
  let main_v8 : FVec F S8x2048x1 .f32 := Host.rsqrt main_v7
  let main_v9 : FVec F S8x2048x4480 .f32 := broadcastInDim S8x2048x4480 ![0, 1, 2] bcast_S8x2048x1_S8x2048x4480_0_1_2 main_v8
  let main_v10 : FVec F S8x2048x4480 .f32 := mulf main_v0 main_v9
  let main_v11 : FVec F S1x1x4480 .f32 := broadcastInDim S1x1x4480 ![2] bcast_S4480_S1x1x4480_2 main_arg1
  let main_v12 : FVec F S8x2048x4480 .f32 := broadcastInDim S8x2048x4480 ![0, 1, 2] bcast_S1x1x4480_S8x2048x4480_0_1_2 main_v11
  let main_v13 : FVec F S8x2048x4480 .f32 := mulf main_v10 main_v12
  let main_v14 : FVec F S1x1x4480 .f32 := broadcastInDim S1x1x4480 ![2] bcast_S4480_S1x1x4480_2 main_arg2
  let main_v15 : FVec F S8x2048x4480 .f32 := broadcastInDim S8x2048x4480 ![0, 1, 2] bcast_S1x1x4480_S8x2048x4480_0_1_2 main_v14
  let main_v16 : FVec F S8x2048x4480 .f32 := Host.divf main_v13 main_v15
  let main_v17 : FVec F S8x2048x4480 .f32 := Host.absf main_v16
  let main_cst_2 : FVec F S_ .f32 := constant S_ .f32 0xFF800000#32
  let main_v18 : FVec F S8x2048 .f32 := (fun x v => Host.reduce FloatOps.maximumf x v reducesTo_S8x2048x4480_S8x2048_d2 h_S_) main_v17 main_cst_2
  let main_v19 : FVec F S8x2048x1 .f32 := broadcastInDim S8x2048x1 ![0, 1] bcast_S8x2048_S8x2048x1_0_1 main_v18
  fn_part1 (F := F) main_arg2 main_v19
-- ==== Kernel.lean ====
abbrev S8x2048x4480 : Shape := ⟨3, ![8, 2048, 4480]⟩
abbrev S4480 : Shape := ⟨1, ![4480]⟩
abbrev S4480x6016 : Shape := ⟨2, ![4480, 6016]⟩
abbrev S6016 : Shape := ⟨1, ![6016]⟩
abbrev S16384x4480 : Shape := ⟨2, ![16384, 4480]⟩
abbrev S1x4480 : Shape := ⟨2, ![1, 4480]⟩
abbrev S1x6016 : Shape := ⟨2, ![1, 6016]⟩
abbrev S16384x6016 : Shape := ⟨2, ![16384, 6016]⟩
abbrev S16384x1 : Shape := ⟨2, ![16384, 1]⟩
abbrev S256x4480 : Shape := ⟨2, ![256, 4480]⟩
abbrev S256x6016 : Shape := ⟨2, ![256, 6016]⟩
abbrev S256x1 : Shape := ⟨2, ![256, 1]⟩
abbrev S256 : Shape := ⟨1, ![256]⟩

abbrev nBuf : Space → Nat
  | .hbm => 12
  | .vmem => 12
  | .smem => 0
  | _ => 0

abbrev bufTy : (tb : Table) → Fin (tcTables nBuf tb) → BufTy
  | .hbm, ⟨0, _⟩ => ⟨S8x2048x4480, .bf16⟩
  | .hbm, ⟨1, _⟩ => ⟨S4480, .f32⟩
  | .hbm, ⟨2, _⟩ => ⟨S4480, .f32⟩
  | .hbm, ⟨3, _⟩ => ⟨S4480x6016, .fp8e4m3⟩
  | .hbm, ⟨4, _⟩ => ⟨S6016, .f32⟩
  | .hbm, ⟨5, _⟩ => ⟨S16384x4480, .bf16⟩
  | .hbm, ⟨6, _⟩ => ⟨S1x4480, .f32⟩
  | .hbm, ⟨7, _⟩ => ⟨S1x4480, .f32⟩
  | .hbm, ⟨8, _⟩ => ⟨S1x6016, .f32⟩
  | .hbm, ⟨9, _⟩ => ⟨S16384x6016, .bf16⟩
  | .hbm, ⟨10, _⟩ => ⟨S16384x4480, .fp8e4m3⟩
  | .hbm, ⟨11, _⟩ => ⟨S16384x1, .f32⟩
  | .local _ .vmem, ⟨0, _⟩ => ⟨S256x4480, .bf16⟩
  | .local _ .vmem, ⟨1, _⟩ => ⟨S256x4480, .bf16⟩
  | .local _ .vmem, ⟨2, _⟩ => ⟨S1x4480, .f32⟩
  | .local _ .vmem, ⟨3, _⟩ => ⟨S1x4480, .f32⟩
  | .local _ .vmem, ⟨4, _⟩ => ⟨S4480x6016, .fp8e4m3⟩
  | .local _ .vmem, ⟨5, _⟩ => ⟨S1x6016, .f32⟩
  | .local _ .vmem, ⟨6, _⟩ => ⟨S256x6016, .bf16⟩
  | .local _ .vmem, ⟨7, _⟩ => ⟨S256x6016, .bf16⟩
  | .local _ .vmem, ⟨8, _⟩ => ⟨S256x4480, .fp8e4m3⟩
  | .local _ .vmem, ⟨9, _⟩ => ⟨S256x4480, .fp8e4m3⟩
  | .local _ .vmem, ⟨10, _⟩ => ⟨S256x1, .f32⟩
  | .local _ .vmem, ⟨11, _⟩ => ⟨S256x1, .f32⟩
  | _, _ => ⟨S8x2048x4480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4480 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4480 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4480 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4480x6016 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6016 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x6016 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4480 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "inv_d" => some ((1 / 4480 : ℝ) : EReal)
  | _ => none
-- ==== ReferenceIdeal.lean ====
abbrev S8x2048x4480 : Shape := ⟨3, ![8, 2048, 4480]⟩
abbrev S4480 : Shape := ⟨1, ![4480]⟩
abbrev S4480x6016 : Shape := ⟨2, ![4480, 6016]⟩
abbrev S6016 : Shape := ⟨1, ![6016]⟩
abbrev S16384x4480 : Shape := ⟨2, ![16384, 4480]⟩
abbrev S1x4480 : Shape := ⟨2, ![1, 4480]⟩
abbrev S1x6016 : Shape := ⟨2, ![1, 6016]⟩
abbrev S16384x6016 : Shape := ⟨2, ![16384, 6016]⟩
abbrev S16384x1 : Shape := ⟨2, ![16384, 1]⟩
abbrev S16384 : Shape := ⟨1, ![16384]⟩

abbrev nBuf : Space → Nat
  | .hbm => 12
  | .vmem => 8
  | .smem => 0
  | _ => 0

abbrev bufTy : (tb : Table) → Fin (tcTables nBuf tb) → BufTy
  | .hbm, ⟨0, _⟩ => ⟨S8x2048x4480, .bf16⟩
  | .hbm, ⟨1, _⟩ => ⟨S4480, .f32⟩
  | .hbm, ⟨2, _⟩ => ⟨S4480, .f32⟩
  | .hbm, ⟨3, _⟩ => ⟨S4480x6016, .fp8e4m3⟩
  | .hbm, ⟨4, _⟩ => ⟨S6016, .f32⟩
  | .hbm, ⟨5, _⟩ => ⟨S16384x4480, .bf16⟩
  | .hbm, ⟨6, _⟩ => ⟨S1x4480, .f32⟩
  | .hbm, ⟨7, _⟩ => ⟨S1x4480, .f32⟩
  | .hbm, ⟨8, _⟩ => ⟨S1x6016, .f32⟩
  | .hbm, ⟨9, _⟩ => ⟨S16384x6016, .bf16⟩
  | .hbm, ⟨10, _⟩ => ⟨S16384x4480, .fp8e4m3⟩
  | .hbm, ⟨11, _⟩ => ⟨S16384x1, .f32⟩
  | .local _ .vmem, ⟨0, _⟩ => ⟨S16384x4480, .bf16⟩
  | .local _ .vmem, ⟨1, _⟩ => ⟨S1x4480, .f32⟩
  | .local _ .vmem, ⟨2, _⟩ => ⟨S1x4480, .f32⟩
  | .local _ .vmem, ⟨3, _⟩ => ⟨S4480x6016, .fp8e4m3⟩
  | .local _ .vmem, ⟨4, _⟩ => ⟨S1x6016, .f32⟩
  | .local _ .vmem, ⟨5, _⟩ => ⟨S16384x6016, .bf16⟩
  | .local _ .vmem, ⟨6, _⟩ => ⟨S16384x4480, .fp8e4m3⟩
  | .local _ .vmem, ⟨7, _⟩ => ⟨S16384x1, .f32⟩
  | _, _ => ⟨S8x2048x4480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S16384x4480 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4480 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4480 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4480x6016 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6016 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x6016 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x4480 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelEntry.lean ====
/-
  The arrays the kernel's one region starts from: the arguments, reshaped to two dimensions.
-/
module

public import proofs.«01_k».proof.Proof.Gen.KernelIdeal.Value
public import Idealize.ShloMosaic.Lib.StableHlo.Run

@[expose] public section

set_option maxRecDepth 16384

noncomputable section

namespace Cert.KernelIdeal.Entry

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ) (c : Dev nD)

theorem V_v0 : V m c main_v0 = shapeCast S16384x4480 (m ((c : Thread nD τ).loc main_arg0)) shapeCasts_S8x2048x4480_S16384x4480 := by
  show StableHlo.after (hostOps0 (F := F)) (fun b => m ((c : Dev nD), b)) (Proc.devRef .tc main_v0) = _
  after_results
  rfl

theorem V_v1 : V m c main_v1 = shapeCast S1x4480 (m ((c : Thread nD τ).loc main_arg1)) shapeCasts_S4480_S1x4480 := by
  show StableHlo.after (hostOps0 (F := F)) (fun b => m ((c : Dev nD), b)) (Proc.devRef .tc main_v1) = _
  after_results
  rfl

theorem V_v2 : V m c main_v2 = shapeCast S1x4480 (m ((c : Thread nD τ).loc main_arg2)) shapeCasts_S4480_S1x4480 := by
  show StableHlo.after (hostOps0 (F := F)) (fun b => m ((c : Dev nD), b)) (Proc.devRef .tc main_v2) = _
  after_results
  rfl

theorem V_v3 : V m c main_v3 = shapeCast S1x6016 (m ((c : Thread nD τ).loc main_arg4)) shapeCasts_S6016_S1x6016 := by
  show StableHlo.after (hostOps0 (F := F)) (fun b => m ((c : Dev nD), b)) (Proc.devRef .tc main_v3) = _
  after_results
  rfl

end Cert.KernelIdeal.Entry

end
-- ==== Proof.Block.lean ====
/-
  What one grid point of the kernel leaves in its three result blocks, as terms of the five input blocks it loads.
-/
module

public import proofs.«01_k».proof.Proof.Gen.KernelIdeal.Value
public import Idealize.ShloMosaic.Lib.Pipeline.Value
public import Idealize.ShloMosaic.Lib.VecWindow

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F] [Named F]

/-- The block's scale column: the float built from the exponent word of each row. -/
def scale (x0 : Vec F S256x4480 .bf16) (x1 x2 : Vec F S1x4480 .f32) : FVec F S256x1 .f32 :=
  k0_pay12 (k0_pay4 x0 x1 x2) (k0_pay8 (k0_pay4 x0 x1 x2) (k0_pay5 x0 x1 x2) (k0_pay6 x0 x1 x2) k0_pay7)
    (k0_pay9 (k0_pay4 x0 x1 x2) (k0_pay5 x0 x1 x2) (k0_pay6 x0 x1 x2) k0_pay7) k0_pay10

/-- The block's codes: the rows times the reciprocal scale, clipped. -/
def codes (x0 : Vec F S256x4480 .bf16) (x1 x2 : Vec F S1x4480 .f32) : FVec F S256x4480 .fp8e4m3 :=
  k0_pay1 (k0_pay13 (k0_pay3 x0 x1 x2) (k0_pay4 x0 x1 x2)
    (k0_pay8 (k0_pay4 x0 x1 x2) (k0_pay5 x0 x1 x2) (k0_pay6 x0 x1 x2) k0_pay7)
    (k0_pay9 (k0_pay4 x0 x1 x2) (k0_pay5 x0 x1 x2) (k0_pay6 x0 x1 x2) k0_pay7) k0_pay10)

/-- The block's product: the codes times the weights, scaled by row and by column. -/
def prod (x0 : Vec F S256x4480 .bf16) (x1 x2 : Vec F S1x4480 .f32) (x3 : Vec F S4480x6016 .fp8e4m3) (x4 : Vec F S1x6016 .f32) :
    FVec F S256x6016 .bf16 :=
  k0_pay2 (scale x0 x1 x2) (codes x0 x1 x2) x3 x4

theorem hz : (![0, 0] : Fin 2 → Nat) = fun _ => 0 := funext fun a => by fin_cases a <;> rfl

variable (c : Dev nD) (i : grid0.Coords) (arg1 : Memref sig .tc .vmem S256x4480 .bf16) (harg1 : arg1.IsWhole)
  (arg2 : Memref sig .tc .vmem S1x4480 .f32) (harg2 : arg2.IsWhole) (arg3 : Memref sig .tc .vmem S1x4480 .f32)
  (harg3 : arg3.IsWhole) (arg4 : Memref sig .tc .vmem S4480x6016 .fp8e4m3) (harg4 : arg4.IsWhole)
  (arg5 : Memref sig .tc .vmem S1x6016 .f32) (harg5 : arg5.IsWhole) (arg6 : Memref sig .tc .vmem S256x6016 .bf16)
  (harg6 : arg6.IsWhole) (arg7 : Memref sig .tc .vmem S256x4480 .fp8e4m3) (harg7 : arg7.IsWhole)
  (arg8 : Memref sig .tc .vmem S256x1 .f32) (harg8 : arg8.IsWhole)
  (x0 : Vec F S256x4480 .bf16) (x1 : Vec F S1x4480 .f32) (x2 : Vec F S1x4480 .f32) (x3 : Vec F S4480x6016 .fp8e4m3)
  (x4 : Vec F S1x6016 .f32)

/-! ## The values the body holds between its loads and its stores -/

theorem r0_eq : kernelRun0_A.sl.r c arg1 harg1 arg2 harg2 arg3 harg3 x0 x1 x2 = k0_pay3 x0 x1 x2 := by
  unfold kernelRun0_A.sl.r
  rw [View.readAt_full, View.readAt_full, View.readAt_full, harg1.read_unread, harg2.read_unread, harg3.read_unread]

theorem r1_eq : kernelRun0_A.sl.r_1 c arg1 harg1 arg2 harg2 arg3 harg3 x0 x1 x2 = k0_pay4 x0 x1 x2 := by
  unfold kernelRun0_A.sl.r_1
  rw [View.readAt_full, View.readAt_full, View.readAt_full, harg1.read_unread, harg2.read_unread, harg3.read_unread]

theorem r2_eq : kernelRun0_A.sl.r_2 c arg1 harg1 arg2 harg2 arg3 harg3 x0 x1 x2 = k0_pay5 x0 x1 x2 := by
  unfold kernelRun0_A.sl.r_2
  rw [View.readAt_full, View.readAt_full, View.readAt_full, harg1.read_unread, harg2.read_unread, harg3.read_unread]

theorem r3_eq : kernelRun0_A.sl.r_3 c arg1 harg1 arg2 harg2 arg3 harg3 x0 x1 x2 = k0_pay6 x0 x1 x2 := by
  unfold kernelRun0_A.sl.r_3
  rw [View.readAt_full, View.readAt_full, View.readAt_full, harg1.read_unread, harg2.read_unread, harg3.read_unread]

theorem r6_eq : kernelRun0_A.sl.r_6 c arg1 harg1 arg2 harg2 arg3 harg3 x0 x1 x2 = scale x0 x1 x2 := by
  unfold kernelRun0_A.sl.r_6 kernelRun0_A.sl.r_5 kernelRun0_A.sl.r_4 scale
  rw [r1_eq, r2_eq, r3_eq]

theorem r7_eq : k0_pay1 (kernelRun0_A.sl.r_7 c arg1 harg1 arg2 harg2 arg3 harg3 x0 x1 x2) = codes x0 x1 x2 := by
  unfold kernelRun0_A.sl.r_7 kernelRun0_A.sl.r_5 kernelRun0_A.sl.r_4 codes
  rw [r0_eq, r1_eq, r2_eq, r3_eq]

/-! ## The three stores -/

theorem out7_eq : out0_A_7 c i arg1 harg1 arg2 harg2 arg3 harg3 arg4 harg4 arg5 harg5 arg6 harg6 arg7 harg7 arg8 harg8
    x0 x1 x2 x3 x4 = scale x0 x1 x2 := by
  unfold out0_A_7
  rw [View.read_writes_junk_eq_canon]
  unfold kernelRun0_A
  dsimp only
  rw [View.canon_unit_zero hz, r6_eq]

theorem out6_eq : out0_A_6 c i arg1 harg1 arg2 harg2 arg3 harg3 arg4 harg4 arg5 harg5 arg6 harg6 arg7 harg7 arg8 harg8
    x0 x1 x2 x3 x4 = codes x0 x1 x2 := by
  unfold out0_A_6
  rw [View.read_writes_junk_eq_canon]
  unfold kernelRun0_A
  dsimp only
  unfold kernelRun0_A.sl.H6_1
  rw [View.canon_unit_zero hz, r7_eq]

theorem out5_eq : out0_A_5 c i arg1 harg1 arg2 harg2 arg3 harg3 arg4 harg4 arg5 harg5 arg6 harg6 arg7 harg7 arg8 harg8
    x0 x1 x2 x3 x4 = prod x0 x1 x2 x3 x4 := by
  unfold out0_A_5
  rw [View.read_writes_junk_eq_canon]
  unfold kernelRun0_A
  dsimp only
  unfold kernelRun0_A.sl.v137 kernelRun0_A.sl.H6_1
  rw [View.canon_unit_zero hz, View.readCov_full, View.readAt_full, View.readAt_full, harg4.read_unread, harg5.read_unread,
    r6_eq, r7_eq]
  rfl

end Cert.KernelIdeal.Block

end
-- ==== Proof.Exponent.lean ====
/-
  The per-row power of two, by itself: the word the kernel builds by comparing with the powers of two and the exponent
  the reference takes from a logarithm are the same power, for every scaled maximum that is zero, infinite, or a number
  from 2^-126 up to 2^126.
-/
module

public import Idealize.ShloMosaic.Lib.IdealHost

@[expose] public section

set_option maxRecDepth 16384

noncomputable section

namespace Cert.RowScale

open Idealize.ShloMosaic

/-! ## The kernel's words -/

/-- The float whose exponent bits are `f` and whose other bits are zero. -/
def pat (f : BitVec 32) : EReal := Ideal.ofBits .f32 (IntOp.shli .vector f 23#32)

/-- One comparison of the search: add `b` to the field when `X` reaches the float of the larger field. -/
def step (X : EReal) (b f : BitVec 32) : BitVec 32 :=
  Scalar.select (Ideal.cmp .oge X (pat (IntOp.addi f b))) (IntOp.addi f b) f

/-- The exponent field the eight comparisons find. -/
def field (X : EReal) : BitVec 32 :=
  step X 1#32 (step X 2#32 (step X 4#32 (step X 8#32 (step X 16#32 (step X 32#32 (step X 64#32 (step X 128#32 0#32)))))))

/-- The kernel's exponent as a function of the field it read. -/
def word (f : BitVec 32) : BitVec 32 :=
  let g := IntOp.andi (IntOp.shrsi .vector (IntOp.shli .vector f 23#32) 23#32) 255#32
  Scalar.select (IntOp.ori (IntOp.cmpi .eq g 0#32) (IntOp.cmpi .eq g 255#32)) 0#32 (IntOp.subi g 126#32)

/-- The kernel's scale of a row whose scaled maximum is `X`. -/
def scaleK (X : EReal) : EReal := pat (IntOp.addi (word (field X)) 127#32)

/-- The kernel's reciprocal of that scale. -/
def invK (X : EReal) : EReal := pat (IntOp.addi (IntOp.subi 0#32 (word (field X))) 127#32)

/-! ## The reference's exponent -/

/-- The exponent `frexp` gives, from a logarithm: zero at zero and at infinity. -/
def expoV (X : EReal) : EReal :=
  Scalar.select (IntOp.ori (Ideal.cmp .oeq X 0) (Ideal.cmp .oeq X ⊤)) 0
    (Ideal.liftRound Int.floor (Ideal.div (Ideal.log X) ((Real.log 2 : ℝ) : EReal)) + 1)

/-- The reference's exponent of a row whose largest magnitude is `a`, scaled to `X`. -/
def expoR (a X : EReal) : EReal := Scalar.select (Ideal.cmp .oeq a 0) 0 (expoV X)

/-! ## What the words denote -/

/-- The bits of a field shifted into place, read back: no sign, that exponent, no fraction. -/
theorem bits_of_field : ∀ n : Fin 256,
    ((IntOp.shli .vector (BitVec.ofNat 32 n.val) 23#32).extractLsb' 31 1 == 1#1) = false
    ∧ ((IntOp.shli .vector (BitVec.ofNat 32 n.val) 23#32).extractLsb' 23 8).toNat = n.val
    ∧ ((IntOp.shli .vector (BitVec.ofNat 32 n.val) 23#32).extractLsb' 0 23).toNat = 0 := by
  decide +kernel

theorem pat_zero : pat (BitVec.ofNat 32 0) = 0 := by
  have h := bits_of_field ⟨0, by omega⟩
  unfold pat Ideal.ofBits Ideal.ieee
  simp only [show 8 + 23 = 31 from rfl, h.1, h.2.1, h.2.2]
  norm_num

theorem pat_top : pat (BitVec.ofNat 32 255) = ⊤ := by
  have h := bits_of_field ⟨255, by omega⟩
  unfold pat Ideal.ofBits Ideal.ieee
  simp only [show 8 + 23 = 31 from rfl, h.1, h.2.1, h.2.2]
  norm_num

theorem pat_pow {n : ℕ} (h0 : 0 < n) (h1 : n < 255) :
    pat (BitVec.ofNat 32 n) = (((2 : ℝ) ^ ((n : ℤ) - 127) : ℝ) : EReal) := by
  have h := bits_of_field ⟨n, by omega⟩
  unfold pat Ideal.ofBits Ideal.ieee
  simp only [show 8 + 23 = 31 from rfl, h.1, h.2.1, h.2.2]
  rw [if_neg (by norm_num; omega), if_neg (by omega)]
  congr 1
  rw [show ((n : ℤ) - (2 ^ (8 - 1) - 1) - ((23 : ℕ) : ℤ)) = ((n : ℤ) - 127) + (-23) by norm_num; omega, zpow_add₀ (by norm_num)]
  norm_num
  ring

/-! ## The search -/

/-- One step of the search once every comparison is known: `n` is reached exactly when `n ≤ N`. -/
def stepN (N : ℕ) (b f : BitVec 32) : BitVec 32 := if (f + b).toNat ≤ N then f + b else f

theorem step_eq {X : EReal} {N : ℕ} (hX : ∀ n : ℕ, n ≤ 255 → (pat (BitVec.ofNat 32 n) ≤ X ↔ n ≤ N)) (b f : BitVec 32)
    (h : (f + b).toNat ≤ 255) : step X b f = stepN N b f := by
  have e : (pat (f + b) ≤ X ↔ (f + b).toNat ≤ N) := by
    have := hX (f + b).toNat h
    rwa [BitVec.ofNat_toNat, BitVec.setWidth_eq] at this
  unfold step stepN Scalar.select Ideal.cmp IntOp.addi
  by_cases hc : (f + b).toNat ≤ N
  · rw [if_pos hc, if_pos]
    simp only [e.mpr hc, decide_true]; rfl
  · rw [if_neg hc, if_neg]
    simp only [mt e.mp hc, decide_false]; decide

/-- The eight steps, all comparisons known, stay within a byte and end at `N` itself. -/
theorem search (N : Fin 256) :
    let f1 := stepN N.val 128#32 0#32
    let f2 := stepN N.val 64#32 f1
    let f3 := stepN N.val 32#32 f2
    let f4 := stepN N.val 16#32 f3
    let f5 := stepN N.val 8#32 f4
    let f6 := stepN N.val 4#32 f5
    let f7 := stepN N.val 2#32 f6
    (0#32 + 128#32).toNat ≤ 255 ∧ (f1 + 64#32).toNat ≤ 255 ∧ (f2 + 32#32).toNat ≤ 255 ∧ (f3 + 16#32).toNat ≤ 255
      ∧ (f4 + 8#32).toNat ≤ 255 ∧ (f5 + 4#32).toNat ≤ 255 ∧ (f6 + 2#32).toNat ≤ 255 ∧ (f7 + 1#32).toNat ≤ 255
      ∧ stepN N.val 1#32 f7 = BitVec.ofNat 32 N.val := by
  revert N
  unfold stepN
  decide +kernel

theorem field_eq {X : EReal} {N : ℕ} (hN : N < 256) (hX : ∀ n : ℕ, n ≤ 255 → (pat (BitVec.ofNat 32 n) ≤ X ↔ n ≤ N)) :
    field X = BitVec.ofNat 32 N := by
  obtain ⟨h1, h2, h3, h4, h5, h6, h7, h8, h⟩ := search ⟨N, hN⟩
  unfold field
  rw [step_eq hX _ _ h1, step_eq hX _ _ h2, step_eq hX _ _ h3, step_eq hX _ _ h4, step_eq hX _ _ h5, step_eq hX _ _ h6,
    step_eq hX _ _ h7, step_eq hX _ _ h8]
  exact h

/-- The two biased exponents the kernel shifts into place, as functions of the field. -/
theorem word_eq : ∀ N : Fin 256,
    IntOp.addi (word (BitVec.ofNat 32 N.val)) 127#32
        = (if N.val = 0 ∨ N.val = 255 then BitVec.ofNat 32 127 else BitVec.ofNat 32 (N.val + 1))
    ∧ (N.val ≤ 253 ∨ N.val = 255 → IntOp.addi (IntOp.subi 0#32 (word (BitVec.ofNat 32 N.val))) 127#32
        = (if N.val = 0 ∨ N.val = 255 then BitVec.ofNat 32 127 else BitVec.ofNat 32 (253 - N.val))) := by
  unfold word
  decide +kernel

theorem pat_one : pat (BitVec.ofNat 32 127) = 1 := by
  rw [pat_pow (by omega) (by omega)]; norm_num

/-! ## The three kinds of row -/

theorem kernel_zero : scaleK 0 = 1 ∧ invK 0 = 1 := by
  have hf : field 0 = BitVec.ofNat 32 0 := field_eq (by omega) fun n hn => by
    rcases Nat.eq_zero_or_pos n with rfl | h0
    · rw [pat_zero]; simp
    · rcases Nat.lt_or_ge n 255 with h | h
      · rw [pat_pow h0 h]
        have : (0 : ℝ) < (2 : ℝ) ^ ((n : ℤ) - 127) := by positivity
        constructor
        · intro hle; exact absurd (EReal.coe_le_coe_iff.mp (by simpa using hle)) (not_le.mpr this)
        · omega
      · obtain rfl : n = 255 := by omega
        rw [pat_top]; simp
  have hw := word_eq ⟨0, by omega⟩
  unfold scaleK invK
  rw [hf]
  exact ⟨by rw [hw.1]; simpa using pat_one, by rw [hw.2 (by simp)]; simpa using pat_one⟩

theorem kernel_top : scaleK ⊤ = 1 ∧ invK ⊤ = 1 := by
  have hf : field ⊤ = BitVec.ofNat 32 255 := field_eq (by omega) fun n hn => by simp [hn]
  have hw := word_eq ⟨255, by omega⟩
  unfold scaleK invK
  rw [hf]
  exact ⟨by rw [hw.1]; simpa using pat_one, by rw [hw.2 (by simp)]; simpa using pat_one⟩

/-- A number from `2^k` up to `2^(k+1)` gets the scale `2^(k+1)`. -/
theorem kernel_pow {r : ℝ} {k : ℤ} (hk0 : -126 ≤ k) (hk1 : k ≤ 125) (h0 : (2 : ℝ) ^ k ≤ r) (h1 : r < (2 : ℝ) ^ (k + 1)) :
    scaleK (r : EReal) = (((2 : ℝ) ^ (k + 1) : ℝ) : EReal) ∧ invK (r : EReal) = (((2 : ℝ) ^ (-(k + 1)) : ℝ) : EReal) := by
  obtain ⟨N, hN⟩ : ∃ N : ℕ, (N : ℤ) = k + 127 := ⟨(k + 127).toNat, by omega⟩
  have hr : 0 < r := lt_of_lt_of_le (by positivity) h0
  have hf : field (r : EReal) = BitVec.ofNat 32 N := field_eq (by omega) fun n hn => by
    rcases Nat.eq_zero_or_pos n with rfl | hn0
    · rw [pat_zero]; simp [hr.le]
    · rcases Nat.lt_or_ge n 255 with h | h
      · rw [pat_pow hn0 h, EReal.coe_le_coe_iff]
        constructor
        · intro hle
          have := (zpow_lt_zpow_iff_right₀ (by norm_num : (1 : ℝ) < 2)).mp (lt_of_le_of_lt hle h1)
          omega
        · intro hle
          exact le_trans (zpow_le_zpow_right₀ (by norm_num) (by omega)) h0
      · obtain rfl : n = 255 := by omega
        rw [pat_top]
        constructor
        · intro hle; exact absurd (top_le_iff.mp hle) (EReal.coe_ne_top r)
        · omega
  have hw := word_eq ⟨N, by omega⟩
  have hne : ¬ (N = 0 ∨ N = 255) := by omega
  have w1 : IntOp.addi (word (BitVec.ofNat 32 N)) 127#32 = BitVec.ofNat 32 (N + 1) := by
    have := hw.1
    rwa [if_neg hne] at this
  have w2 : IntOp.addi (IntOp.subi 0#32 (word (BitVec.ofNat 32 N))) 127#32 = BitVec.ofNat 32 (253 - N) := by
    have := hw.2 (Or.inl (by show N ≤ 253; omega))
    rwa [if_neg hne] at this
  unfold scaleK invK
  rw [hf, w1, w2, pat_pow (by omega) (by omega), pat_pow (by omega) (by omega)]
  constructor
  · congr 2; push_cast; omega
  · congr 2; omega

/-! ## The reference's -/

theorem select_zero {α : Type} (x y : α) : Scalar.select 0#1 x y = y := rfl
theorem select_one {α : Type} (x y : α) : Scalar.select 1#1 x y = x := rfl

theorem expo_zero (X : EReal) : expoR 0 X = 0 := by
  unfold expoR Ideal.cmp
  simp [Scalar.select]

theorem expoV_top : expoV ⊤ = 0 := by
  unfold expoV Ideal.cmp IntOp.ori
  simp [Scalar.select]

theorem expoV_pow {r : ℝ} {k : ℤ} (h0 : (2 : ℝ) ^ k ≤ r) (h1 : r < (2 : ℝ) ^ (k + 1)) :
    expoV (r : EReal) = (((k + 1 : ℤ) : ℝ) : EReal) := by
  have hr : 0 < r := lt_of_lt_of_le (by positivity) h0
  have hl : (0 : ℝ) < Real.log 2 := Real.log_pos (by norm_num)
  have hfl : ⌊Real.log r / Real.log 2⌋ = k := by
    rw [Int.floor_eq_iff]
    constructor
    · rw [le_div_iff₀ hl]
      have := Real.log_le_log (by positivity) h0
      rwa [Real.log_zpow] at this
    · rw [div_lt_iff₀ hl]
      have := Real.log_lt_log hr h1
      rw [Real.log_zpow] at this
      push_cast at this
      exact this
  have hne : (r : EReal) ≠ 0 := by exact_mod_cast hr.ne'
  have c0 : Ideal.cmp .oeq (r : EReal) 0 = 0#1 := by simp [Ideal.cmp, hne]
  have c1 : Ideal.cmp .oeq (r : EReal) ⊤ = 0#1 := by simp [Ideal.cmp]
  unfold expoV
  rw [c0, c1, show IntOp.ori (0#1) (0#1) = 0#1 from rfl, select_zero, Ideal.log_coe, if_neg (not_le.mpr hr),
    Ideal.div_coe hl.ne', ← EReal.coe_mul, mul_one_div, Ideal.liftRound_coe, hfl]
  push_cast
  rfl

theorem exp2_int (z : ℤ) : Ideal.exp2 (((z : ℤ) : ℝ) : EReal) = (((2 : ℝ) ^ z : ℝ) : EReal) := by
  rw [Ideal.exp2_coe]
  congr 1
  exact Real.rpow_intCast 2 z

/-- For a row whose largest magnitude `a`, scaled to `X`, is zero, infinite, or from `2^-126` up to `2^126`, the kernel's
    scale is two to the reference's exponent and its reciprocal two to the negated exponent. -/
theorem scale_eq {a X : EReal} (h : (a = 0 ∧ X = 0) ∨ (a = ⊤ ∧ X = ⊤)
      ∨ (a ≠ 0 ∧ ∃ r : ℝ, X = (r : EReal) ∧ (2 : ℝ) ^ (-126 : ℤ) ≤ r ∧ r < (2 : ℝ) ^ (126 : ℤ))) :
    scaleK X = Ideal.exp2 (expoR a X) ∧ invK X = Ideal.exp2 (0 - expoR a X) := by
  have e0 : Ideal.exp2 (0 : EReal) = 1 := by
    have := exp2_int 0
    simpa using this
  rcases h with ⟨rfl, rfl⟩ | ⟨rfl, rfl⟩ | ⟨ha, r, rfl, h0, h1⟩
  · rw [expo_zero, sub_zero, e0]; exact kernel_zero
  · have : expoR ⊤ ⊤ = 0 := by
      unfold expoR
      rw [expoV_top]
      unfold Scalar.select
      simp
    rw [this, sub_zero, e0]; exact kernel_top
  · have hr : 0 < r := lt_of_lt_of_le (by positivity) h0
    obtain ⟨k, l0, l1⟩ := exists_mem_Ico_zpow hr (by norm_num : (1 : ℝ) < 2)
    have k0 : -126 ≤ k := by
      have := (zpow_lt_zpow_iff_right₀ (by norm_num : (1 : ℝ) < 2)).mp (lt_of_le_of_lt h0 l1)
      omega
    have k1 : k ≤ 125 := by
      have := (zpow_lt_zpow_iff_right₀ (by norm_num : (1 : ℝ) < 2)).mp (lt_of_le_of_lt l0 h1)
      omega
    have hk := kernel_pow k0 k1 l0 l1
    have he : expoR a (r : EReal) = (((k + 1 : ℤ) : ℝ) : EReal) := by
      unfold expoR
      rw [expoV_pow l0 l1]
      have : Ideal.cmp .oeq a 0 = 0#1 := by simp [Ideal.cmp, ha]
      rw [this, select_zero]
    have hn : (0 : EReal) - (((k + 1 : ℤ) : ℝ) : EReal) = (((-(k + 1) : ℤ) : ℝ) : EReal) := by
      rw [zero_sub, ← EReal.coe_neg]
      congr 1
      push_cast
      ring
    rw [he, hn, exp2_int, exp2_int]
    exact hk

end Cert.RowScale

end
-- ==== Proof.Field.lean ====
/-
  The kernel's exponent word and its two powers of two, read at a row: the eight comparisons on vectors are the eight
  comparisons of that row's scaled maximum.
-/
module

public import proofs.«01_k».proof.Proof.Block
public import proofs.«01_k».proof.Proof.Exponent

@[expose] public section

set_option maxRecDepth 16384

noncomputable section

namespace Cert.KernelIdeal.Block

open Cert.KernelIdeal Cert.KernelIdeal.Gen Idealize.ShloMosaic Idealize.ShloMosaic.TcCoe Idealize.SL.Sem

/-- One comparison of the search, on a column. -/
def stepV (X : FVec Ideal S256x1 .f32) (b : BitVec 32) (f : IVec S256x1 32) : IVec S256x1 32 :=
  select (cmpf .oge X (bitcastToFloat .f32 (shli (addi f (broadcast S256x1 b)) (broadcast S256x1 23#32))))
    (addi f (broadcast S256x1 b)) f

theorem stepV_apply (X : FVec Ideal S256x1 .f32) (b : BitVec 32) (f : IVec S256x1 32) (j : S256x1.Idx) :
    stepV X b f j = RowScale.step (X j) b (f j) := rfl

/-- The exponent from a field, on a column. -/
def wordV (f : IVec S256x1 32) : IVec S256x1 32 :=
  select (ori (cmpi .eq (andi (shrsi (shli f (broadcast S256x1 23#32)) (broadcast S256x1 23#32)) (broadcast S256x1 255#32)) (broadcast S256x1 0#32))
      (cmpi .eq (andi (shrsi (shli f (broadcast S256x1 23#32)) (broadcast S256x1 23#32)) (broadcast S256x1 255#32)) (broadcast S256x1 255#32)))
    (broadcast S256x1 0#32)
    (subi (andi (shrsi (shli f (broadcast S256x1 23#32)) (broadcast S256x1 23#32)) (broadcast S256x1 255#32)) (broadcast S256x1 126#32))

theorem wordV_apply (f : IVec S256x1 32) (j : S256x1.Idx) : wordV f j = RowScale.word (f j) := rfl

variable (x0 : Vec Ideal S256x4480 .bf16) (x1 x2 : Vec Ideal S1x4480 .f32)

theorem pay5_eq : k0_pay5 x0 x1 x2 = stepV (k0_pay4 x0 x1 x2) 128#32 (broadcast S256x1 0#32) := by
  unfold k0_pay5 stepV
  generalize k0_pay4 x0 x1 x2 = X
  rfl

theorem pay6_eq : k0_pay6 x0 x1 x2 = addi (k0_pay5 x0 x1 x2) (broadcast S256x1 64#32) := by
  unfold k0_pay6
  rfl

theorem pay8_eq (X : FVec Ideal S256x1 .f32) (f : IVec S256x1 32) :
    k0_pay8 X f (addi f (broadcast S256x1 64#32)) k0_pay7
      = stepV X 4#32 (stepV X 8#32 (stepV X 16#32 (stepV X 32#32 (stepV X 64#32 f)))) := by
  unfold k0_pay8 k0_pay7 stepV
  rfl

theorem pay9_eq (X : FVec Ideal S256x1 .f32) (f g h : IVec S256x1 32) :
    k0_pay9 X f g h = addi (k0_pay8 X f g h) (broadcast S256x1 2#32) := by
  unfold k0_pay9
  rfl

theorem pay11_eq (X : FVec Ideal S256x1 .f32) (f : IVec S256x1 32) :
    k0_pay11 X f (addi f (broadcast S256x1 2#32)) k0_pay10 = wordV (stepV X 1#32 (stepV X 2#32 f)) := by
  unfold k0_pay11 k0_pay10 wordV stepV
  rfl

/-- The exponent word of a block's rows. -/
theorem word_eq : k0_pay11 (k0_pay4 x0 x1 x2) (k0_pay8 (k0_pay4 x0 x1 x2) (k0_pay5 x0 x1 x2) (k0_pay6 x0 x1 x2) k0_pay7)
      (k0_pay9 (k0_pay4 x0 x1 x2) (k0_pay5 x0 x1 x2) (k0_pay6 x0 x1 x2) k0_pay7) k0_pay10
    = fun j => RowScale.word (RowScale.field (k0_pay4 x0 x1 x2 j)) := by
  rw [pay9_eq, pay11_eq, pay6_eq, pay8_eq, pay5_eq]
  generalize k0_pay4 x0 x1 x2 = X
  funext j
  unfold RowScale.field
  rw [wordV_apply, stepV_apply, stepV_apply, stepV_apply, stepV_apply, stepV_apply, stepV_apply, stepV_apply, stepV_apply]
  rfl

theorem scale_apply (j : S256x1.Idx) : scale x0 x1 x2 j = RowScale.scaleK (k0_pay4 x0 x1 x2 j) := by
  unfold scale k0_pay12 RowScale.scaleK
  rw [word_eq]
  rfl

/-- The reciprocal scale on a column. -/
def invV : FVec Ideal S256x1 .f32 := fun j => RowScale.invK (k0_pay4 x0 x1 x2 j)

/-- The codes as the rows times the reciprocal scale, clipped. -/
theorem codes_eq : codes x0 x1 x2
    = k0_pay1 (mulf (k0_pay3 x0 x1 x2) (broadcastTo S256x4480 (invV x0 x1 x2) broadcasts_S256x1_S256x4480)) := by
  unfold codes k0_pay13
  rw [word_eq]
  rfl

end Cert.KernelIdeal.Block

end
-- ==== Proof.Row.lean ====
/-
  One row, in extended reals: the scaled row of the reference and of the kernel, the row's largest magnitude, the scale,
  the codes and one entry of the product; and the equality of the two under the precondition.
-/
module

public import proofs.«01_k».proof.Proof.Exponent
public import Idealize.ShloMosaic.Lib.IdealHost

@[expose] public section

set_option maxRecDepth 16384

noncomputable section

namespace Cert.RowScale

open Idealize.ShloMosaic

/-- The constant added to the mean square. -/
def eps : EReal := Ideal.ofBits .f32 0x358637BD#32

/-- The single-precision number nearest to 1/448. -/
def c448 : EReal := Ideal.ofBits .f32 0x3B124925#32

/-- A constant's bits, read as an extended real. -/
theorem ofB (b : BitVec 32) : Scalar.ofBits (F := Ideal) .f32 b = Ideal.ofBits .f32 b := rfl

/-! Elementwise operations at an index. -/

section Elementwise

variable {s : Shape} (a b : FVec Ideal s .f32) (j : s.Idx)

theorem mulI : mulf a b j = a j * b j := id rfl
theorem addI : addf a b j = a j + b j := id rfl
theorem divI : divf a b j = Ideal.div (a j) (b j) := id rfl
theorem logI : log a j = Ideal.log (a j) := id rfl
theorem floorI : floor a j = Ideal.liftRound Int.floor (a j) := id rfl
theorem cmpI (p : CmpFPredicate) : cmpf p a b j = Ideal.cmp p (a j) (b j) := id rfl
theorem selI (c : IVec s 1) : select c a b j = Scalar.select (c j) (a j) (b j) := id rfl
theorem oriI (c d : IVec s 1) : ori c d j = IntOp.ori (c j) (d j) := id rfl
theorem splatI (x : Ideal .f32) : broadcast s x j = x := id rfl

end Elementwise

theorem c448_bits : Scalar.ofBits (F := Ideal) .f32 0x3B124925#32 = c448 := by
  rw [ofB, c448]

/-- The row divided by its root mean square, times gamma, over the smoothing factors: as the reference computes it. -/
def vR (x g s : Fin 4480 → EReal) (k : Fin 4480) : EReal :=
  Ideal.div (x k * Ideal.rsqrt (Ideal.div (∑ i, x i * x i) (Ideal.ofBits .f32 0x458C0000#32) + eps) * g k) (s k)

/-- The same as the kernel computes it: products with 1/4480 and with the inverse smoothing factors. -/
def vK (x g s : Fin 4480 → EReal) (k : Fin 4480) : EReal :=
  x k * Ideal.rsqrt ((∑ i, x i * x i) * ((1 / 4480 : ℝ) : EReal) + eps) * g k * Ideal.div 1 (s k)

/-- The largest magnitude of a row. -/
def amax (v : Fin 4480 → EReal) : EReal :=
  Finset.fold max (Ideal.ofBits .f32 0xFF800000#32) (fun k => max (v k) (-(v k))) Finset.univ

/-- One code: the entry times the inverse scale, clipped to ±448. -/
def clip (u : EReal) : EReal :=
  min (Ideal.ofBits .f32 0x43E00000#32) (max (Ideal.ofBits .f32 0xC3E00000#32) u)

/-- One entry of the product: codes times weights, times the row's scale, times the column's. -/
def out (q w : Fin 4480 → EReal) (e ws : EReal) : EReal := (∑ k, q k * w k) * e * ws

theorem ofBits_4480 : Ideal.ofBits .f32 0x458C0000#32 = ((4480 : ℝ) : EReal) := by
  unfold Ideal.ofBits Ideal.ieee
  norm_num [-EReal.coe_mul, Nat.shiftRight_eq_div_pow, BitVec.extractLsb']

theorem vK_eq {x g s : Fin 4480 → EReal} (h : ∀ k, s k ≠ 0) : vK x g s = vR x g s := by
  funext k
  unfold vK vR
  rw [Ideal.mul_one_div (h k), ofBits_4480, Ideal.div_coe (by norm_num)]

theorem ofBits_inf : Ideal.ofBits .f32 0x7F800000#32 = ⊤ := by
  unfold Ideal.ofBits Ideal.ieee
  simp

theorem amax_nonneg (v : Fin 4480 → EReal) : 0 ≤ amax v := by
  unfold amax
  rw [Finset.le_fold_max]
  refine Or.inr ⟨0, Finset.mem_univ _, ?_⟩
  rcases le_total 0 (v 0) with h | h
  · exact le_max_of_le_left h
  · exact le_max_of_le_right (EReal.neg_nonneg.2 h)

/-- What the precondition says of a row's largest magnitude. -/
def Fits (a : EReal) : Prop :=
  (a * c448 < Ideal.ofBits .f32 0x7E800000#32 ∨ a = Ideal.ofBits .f32 0x7F800000#32)
    ∧ (a = 0 ∨ Ideal.ofBits .f32 0x00800000#32 ≤ a * c448)

theorem c448_eq : c448 = ((9586981 / 4294967296 : ℝ) : EReal) := by
  unfold c448 Ideal.ofBits Ideal.ieee
  norm_num [-EReal.coe_mul, Nat.shiftRight_eq_div_pow, BitVec.extractLsb']

theorem ofBits_big : Ideal.ofBits .f32 0x7E800000#32 = (((2 : ℝ) ^ (126 : ℤ) : ℝ) : EReal) := by
  unfold Ideal.ofBits Ideal.ieee
  norm_num [-EReal.coe_mul, Nat.shiftRight_eq_div_pow, BitVec.extractLsb']

theorem ofBits_tiny : Ideal.ofBits .f32 0x00800000#32 = (((2 : ℝ) ^ (-126 : ℤ) : ℝ) : EReal) := by
  unfold Ideal.ofBits Ideal.ieee
  norm_num [-EReal.coe_mul, Nat.shiftRight_eq_div_pow, BitVec.extractLsb']

/-- Under the precondition the scaled maximum is zero, infinite, or a number whose exponent a normal number can have. -/
theorem cases_of_fits {a : EReal} (h0 : 0 ≤ a) (h : Fits a) :
    (a = 0 ∧ a * c448 = 0) ∨ (a = ⊤ ∧ a * c448 = ⊤)
      ∨ (a ≠ 0 ∧ ∃ r : ℝ, a * c448 = (r : EReal) ∧ (2 : ℝ) ^ (-126 : ℤ) ≤ r ∧ r < (2 : ℝ) ^ (126 : ℤ)) := by
  obtain ⟨h1, h2⟩ := h
  by_cases ha : a = 0
  · exact Or.inl ⟨ha, by rw [ha, zero_mul]⟩
  · have h2 := h2.resolve_left ha
    by_cases ht : a = ⊤
    · exact Or.inr (Or.inl ⟨ht, by rw [ht, c448_eq]; exact EReal.top_mul_coe_of_pos (by norm_num)⟩)
    · have h1 := h1.resolve_right (by rw [ofBits_inf]; exact ht)
      refine Or.inr (Or.inr ⟨ha, ?_⟩)
      induction a using EReal.rec with
      | bot => exact absurd h0 (by simp)
      | top => exact absurd rfl ht
      | coe a =>
        rw [c448_eq, ofBits_big, ← EReal.coe_mul, EReal.coe_lt_coe_iff] at h1
        rw [c448_eq, ofBits_tiny, ← EReal.coe_mul, EReal.coe_le_coe_iff] at h2
        exact ⟨a * (9586981 / 4294967296), by rw [c448_eq, ← EReal.coe_mul], h2, h1⟩

/-- The kernel's scale and inverse scale of a row that fits are the reference's. -/
theorem scale_row {v : Fin 4480 → EReal} (h : Fits (amax v)) :
    scaleK (amax v * c448) = Ideal.exp2 (expoR (amax v) (amax v * c448))
      ∧ invK (amax v * c448) = Ideal.exp2 (0 - expoR (amax v) (amax v * c448)) :=
  scale_eq (cases_of_fits (amax_nonneg v) h)

end Cert.RowScale

end
-- ==== Proof.BlockRow.lean ====
/-
  The kernel's block, read at a row and a column: each of the three results of a block is the row's scale, code or
  product entry of the staged blocks.
-/
module

public import proofs.«01_k».proof.Proof.Field
public import proofs.«01_k».proof.Proof.Row
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.SL.Sem
open Cert.RowScale

variable (x0 : Vec Ideal S256x4480 .bf16) (x1 x2 : Vec Ideal S1x4480 .f32)

/-- The scaled row `r` of the block. -/
def vRow (r : Fin 256) : Fin 4480 → EReal :=
  vK (fun k => x0 (ix2 r k)) (fun k => x1 (ix2 0 k)) (fun k => x2 (ix2 0 k))

theorem v_apply (r : Fin 256) (k : Fin 4480) : k0_pay3 x0 x1 x2 (ix2 r k) = vRow x0 x1 x2 r k := by
  unfold vRow vK eps
  rw [← IdealRules.named_const.ideal_named_scalar (φ := .f32) κ "inv_d" 0x396A0EA1#32 ((1 / 4480 : ℝ) : EReal) rfl]
  pointwise [k0_pay3]

/-- The largest magnitude of every row, as a column. -/
def maxOf (v : FVec Ideal S256x4480 .f32) : FVec Ideal S256x1 .f32 :=
  shapeCast S256x1 (multiReduction .maximumf [1] S256 (absf v) 0xFF800000#32 reduces_S256x4480_S256 (.inl rfl) rfl)
    shapeCasts_S256_S256x1

theorem maxOf_apply (v : FVec Ideal S256x4480 .f32) (r : Fin 256) :
    maxOf v (ix2 r 0) = amax (fun k => v (ix2 r k)) := by
  have ab : ∀ y : Ideal .f32, FloatOps.absf y = max y (-y) := fun _ => rfl
  unfold amax
  pointwise [maxOf]
  simp only [ab]

theorem X_form (c : Ideal .f32) (hc : Scalar.ofBits (F := Ideal) .f32 0x3B124925#32 = c) (j : S256x1.Idx) :
    k0_pay4 x0 x1 x2 j = maxOf (k0_pay3 x0 x1 x2) j * c := by
  unfold k0_pay4
  rw [hc]
  generalize k0_pay3 x0 x1 x2 = v
  show mulf (maxOf v) (broadcast S256x1 c) j = _
  rw [mulI, splatI]

theorem X_apply (r : Fin 256) : k0_pay4 x0 x1 x2 (ix2 r 0) = amax (vRow x0 x1 x2 r) * c448 := by
  have h : vRow x0 x1 x2 r = fun k => k0_pay3 x0 x1 x2 (ix2 r k) := funext fun k => (v_apply x0 x1 x2 r k).symm
  rw [X_form x0 x1 x2 c448 c448_bits, maxOf_apply, h]

theorem scale_row_apply (r : Fin 256) :
    scale x0 x1 x2 (ix2 r 0) = scaleK (amax (vRow x0 x1 x2 r) * c448) := by
  rw [scale_apply, X_apply]

theorem codes_apply (r : Fin 256) (k : Fin 4480) :
    codes x0 x1 x2 (ix2 r k) = clip (vRow x0 x1 x2 r k * invK (amax (vRow x0 x1 x2 r) * c448)) := by
  rw [codes_eq, ← v_apply, ← X_apply]
  have e : invK (k0_pay4 x0 x1 x2 (ix2 r 0)) = invV x0 x1 x2 (ix2 r 0) := rfl
  rw [e]
  generalize invV x0 x1 x2 = u
  generalize k0_pay3 x0 x1 x2 = v
  unfold clip
  pointwise [k0_pay1]

theorem prod_apply (x3 : Vec Ideal S4480x6016 .fp8e4m3) (x4 : Vec Ideal S1x6016 .f32) (r : Fin 256) (n : Fin 6016) :
    prod x0 x1 x2 x3 x4 (ix2 r n)
      = out (fun k => codes x0 x1 x2 (ix2 r k)) (fun k => x3 (ix2 k n)) (scale x0 x1 x2 (ix2 r 0)) (x4 (ix2 0 n)) := by
  unfold prod out
  generalize codes x0 x1 x2 = q
  generalize scale x0 x1 x2 = e
  pointwise [k0_pay2]

end Cert.KernelIdeal.Block

end
-- ==== Proof.KernelArrays.lean ====
/-
  The kernel's three result arrays after the run, read at an index: row `256 t + r` of an array is row `r` of block `t`.
-/
module

public import proofs.«01_k».proof.Proof.Gen.KernelIdeal.Value
public import proofs.«01_k».proof.Proof.BlockRow

@[expose] public section

set_option maxRecDepth 16384

noncomputable section

namespace Cert.KernelIdeal.Arrays

open Cert.KernelIdeal Cert.KernelIdeal.Gen Idealize.ShloMosaic Idealize.ShloMosaic.TcCoe Idealize.SL.Sem
open Cert.RowScale

variable (m : (ℓ : Loc nD τ sig) → Buf (Elt Ideal) ℓ) (c : Dev nD)

/-- Where the windows' blocks lie: the rows of x and of the results move with the point, the other arrays are whole. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- The array row of row `r` of block `t`. -/
def row (t : Fin cfg0.N) (r : Fin 256) : Fin 16384 :=
  ⟨t.val * 256 + r.val, by have h : cfg0.N = 64 := rfl; have := t.isLt; have := r.isLt; omega⟩

/-! ## The input blocks -/

theorem x_apply (t : Fin cfg0.N) (r : Fin 256) (k : Fin 4480) :
    iblk m c 0 t (ix2 r k) = V m c main_v0 (ix2 (row t r) k) := by
  obtain ⟨⟨e0, e1⟩, -⟩ := idx_facts t
  show V m c main_v0 (((cfg0.win 0).blk t).view.emb (ix2 r k)) = _
  congr 1
  funext a; apply Fin.ext
  match a with
  | ⟨0, _⟩ => show win0_0.index t (0 : Fin 2) * 256 + 1 * r.val = t.val * 256 + r.val; omega
  | ⟨1, _⟩ => show win0_0.index t (1 : Fin 2) * 4480 + 1 * k.val = k.val; omega

theorem gamma_eq (t : Fin cfg0.N) : iblk m c 1 t = V m c main_v1 := by
  obtain ⟨-, ⟨e0, e1⟩, -⟩ := idx_facts t
  funext z
  show V m c main_v1 (((cfg0.win 1).blk t).view.emb z) = _
  congr 1
  funext a; apply Fin.ext
  match a with
  | ⟨0, _⟩ => show win0_1.index t (0 : Fin 2) * 1 + 1 * (z 0).val = (z 0).val; omega
  | ⟨1, _⟩ => show win0_1.index t (1 : Fin 2) * 4480 + 1 * (z 1).val = (z 1).val; omega

theorem smooth_eq (t : Fin cfg0.N) : iblk m c 2 t = V m c main_v2 := by
  obtain ⟨-, -, ⟨e0, e1⟩, -⟩ := idx_facts t
  funext z
  show V m c main_v2 (((cfg0.win 2).blk t).view.emb z) = _
  congr 1
  funext a; apply Fin.ext
  match a with
  | ⟨0, _⟩ => show win0_2.index t (0 : Fin 2) * 1 + 1 * (z 0).val = (z 0).val; omega
  | ⟨1, _⟩ => show win0_2.index t (1 : Fin 2) * 4480 + 1 * (z 1).val = (z 1).val; omega

theorem w_eq (t : Fin cfg0.N) : iblk m c 3 t = V m c main_arg3 := by
  obtain ⟨-, -, -, ⟨e0, e1⟩, -⟩ := idx_facts t
  funext z
  show V m c main_arg3 (((cfg0.win 3).blk t).view.emb z) = _
  congr 1
  funext a; apply Fin.ext
  match a with
  | ⟨0, _⟩ => show win0_3.index t (0 : Fin 2) * 4480 + 1 * (z 0).val = (z 0).val; omega
  | ⟨1, _⟩ => show win0_3.index t (1 : Fin 2) * 6016 + 1 * (z 1).val = (z 1).val; omega

theorem ws_eq (t : Fin cfg0.N) : iblk m c 4 t = V m c main_v3 := by
  obtain ⟨-, -, -, -, ⟨e0, e1⟩, -⟩ := idx_facts t
  funext z
  show V m c main_v3 (((cfg0.win 4).blk t).view.emb z) = _
  congr 1
  funext a; apply Fin.ext
  match a with
  | ⟨0, _⟩ => show win0_4.index t (0 : Fin 2) * 1 + 1 * (z 0).val = (z 0).val; omega
  | ⟨1, _⟩ => show win0_4.index t (1 : Fin 2) * 6016 + 1 * (z 1).val = (z 1).val; omega

/-! ## The output blocks' places -/

theorem emb5 (t : Fin cfg0.N) (r : Fin 256) (n : Fin 6016) :
    ((cfg0.win 5).blk t).view.emb (ix2 r n) = ix2 (row t r) n := by
  obtain ⟨-, -, -, -, -, ⟨e0, e1⟩, -⟩ := idx_facts t
  funext a; apply Fin.ext
  match a with
  | ⟨0, _⟩ => show win0_5.index t (0 : Fin 2) * 256 + 1 * r.val = t.val * 256 + r.val; omega
  | ⟨1, _⟩ => show win0_5.index t (1 : Fin 2) * 6016 + 1 * n.val = n.val; omega

theorem emb6 (t : Fin cfg0.N) (r : Fin 256) (k : Fin 4480) :
    ((cfg0.win 6).blk t).view.emb (ix2 r k) = ix2 (row t r) k := by
  obtain ⟨-, -, -, -, -, -, ⟨e0, e1⟩, -⟩ := idx_facts t
  funext a; apply Fin.ext
  match a with
  | ⟨0, _⟩ => show win0_6.index t (0 : Fin 2) * 256 + 1 * r.val = t.val * 256 + r.val; omega
  | ⟨1, _⟩ => show win0_6.index t (1 : Fin 2) * 4480 + 1 * k.val = k.val; omega

theorem emb7 (t : Fin cfg0.N) (r : Fin 256) :
    ((cfg0.win 7).blk t).view.emb (ix2 r 0) = ix2 (row t r) 0 := by
  obtain ⟨-, -, -, -, -, -, -, ⟨e0, e1⟩⟩ := idx_facts t
  funext a; apply Fin.ext
  match a with
  | ⟨0, _⟩ => show win0_7.index t (0 : Fin 2) * 256 + 1 * r.val = t.val * 256 + r.val; omega
  | ⟨1, _⟩ => show win0_7.index t (1 : Fin 2) * 1 + 1 * 0 = 0; omega

/-- Every row of the arrays is a row of a block. -/
theorem exists_row (R : Fin 16384) : ∃ (t : Fin cfg0.N) (r : Fin 256), row t r = R := by
  have h : cfg0.N = 64 := rfl
  have hR := R.isLt
  refine ⟨⟨R.val / 256, by omega⟩, ⟨R.val % 256, by omega⟩, Fin.ext ?_⟩
  show R.val / 256 * 256 + R.val % 256 = R.val
  omega

/-! ## The results -/

/-- The scaled row `R` of the array. -/
def vRow (R : Fin 16384) : Fin 4480 → EReal :=
  vK (fun k => V m c main_v0 (ix2 R k)) (fun k => V m c main_v1 (ix2 0 k)) (fun k => V m c main_v2 (ix2 0 k))

theorem vRow_block (t : Fin cfg0.N) (r : Fin 256) :
    Block.vRow (iblk m c 0 t) (V m c main_v1) (V m c main_v2) r = vRow m c (row t r) := by
  unfold Block.vRow vRow
  rw [show (fun k => iblk m c 0 t (ix2 r k)) = fun k => V m c main_v0 (ix2 (row t r) k) from funext fun k => x_apply m c t r k]

theorem scale_at (R : Fin 16384) :
    (dats m 0 c).arrAt 7 cfg0.N (ix2 R 0) = scaleK (amax (vRow m c R) * c448) := by
  obtain ⟨t, r, rfl⟩ := exists_row R
  have h := congrFun (Value.blocks7 m c t (flush0_7 t)) (ix2 r 0)
  rw [Value.flushed7_A, Block.out7_eq, gamma_eq, smooth_eq] at h
  rw [← emb7, ← vRow_block, ← Block.scale_row_apply]
  exact h

theorem codes_at (R : Fin 16384) (k : Fin 4480) :
    (dats m 0 c).arrAt 6 cfg0.N (ix2 R k) = clip (vRow m c R k * invK (amax (vRow m c R) * c448)) := by
  obtain ⟨t, r, rfl⟩ := exists_row R
  have h := congrFun (Value.blocks6 m c t (flush0_6 t)) (ix2 r k)
  rw [Value.flushed6_A, Block.out6_eq, gamma_eq, smooth_eq] at h
  rw [← emb6, ← vRow_block, ← Block.codes_apply]
  exact h

theorem prod_at (R : Fin 16384) (n : Fin 6016) :
    (dats m 0 c).arrAt 5 cfg0.N (ix2 R n)
      = out (fun k => clip (vRow m c R k * invK (amax (vRow m c R) * c448))) (fun k => V m c main_arg3 (ix2 k n))
          (scaleK (amax (vRow m c R) * c448)) (V m c main_v3 (ix2 0 n)) := by
  obtain ⟨t, r, rfl⟩ := exists_row R
  have h := congrFun (Value.blocks5 m c t (flush0_5 t)) (ix2 r n)
  rw [Value.flushed5_A, Block.out5_eq, gamma_eq, smooth_eq, w_eq, ws_eq] at h
  have e := Block.prod_apply (iblk m c 0 t) (V m c main_v1) (V m c main_v2) (V m c main_arg3) (V m c main_v3) r n
  simp only [Block.codes_apply, Block.scale_row_apply] at e
  rw [vRow_block] at e
  rw [← e, ← emb5]
  exact h

end Cert.KernelIdeal.Arrays

end
-- ==== Proof.RefEntry.lean ====
/-
  The arrays the reference's one region starts from: the arguments, reshaped to two dimensions.
-/
module

public import proofs.«01_k».proof.Proof.Gen.ReferenceIdeal.Value
public import Idealize.ShloMosaic.Lib.StableHlo.Run

@[expose] public section

set_option maxRecDepth 16384

noncomputable section

namespace Cert.ReferenceIdeal.Entry

open Cert.ReferenceIdeal Cert.ReferenceIdeal.Gen Idealize.ShloMosaic Idealize.ShloMosaic.TcCoe Idealize.SL.Sem

variable {F : FTy → Type} [FloatOps F] [Named F]
variable (m : (ℓ : Loc nD τ sig) → Buf (Elt F) ℓ) (c : Dev nD)

theorem V_v0 : V m c main_v0 = shapeCast S16384x4480 (m ((c : Thread nD τ).loc main_arg0)) shapeCasts_S8x2048x4480_S16384x4480 := by
  show StableHlo.after (hostOps0 (F := F)) (fun b => m ((c : Dev nD), b)) (Proc.devRef .tc main_v0) = _
  after_results
  rfl

theorem V_v1 : V m c main_v1 = shapeCast S1x4480 (m ((c : Thread nD τ).loc main_arg1)) shapeCasts_S4480_S1x4480 := by
  show StableHlo.after (hostOps0 (F := F)) (fun b => m ((c : Dev nD), b)) (Proc.devRef .tc main_v1) = _
  after_results
  rfl

theorem V_v2 : V m c main_v2 = shapeCast S1x4480 (m ((c : Thread nD τ).loc main_arg2)) shapeCasts_S4480_S1x4480 := by
  show StableHlo.after (hostOps0 (F := F)) (fun b => m ((c : Dev nD), b)) (Proc.devRef .tc main_v2) = _
  after_results
  rfl

theorem V_v3 : V m c main_v3 = shapeCast S1x6016 (m ((c : Thread nD τ).loc main_arg4)) shapeCasts_S6016_S1x6016 := by
  show StableHlo.after (hostOps0 (F := F)) (fun b => m ((c : Dev nD), b)) (Proc.devRef .tc main_v3) = _
  after_results
  rfl

end Cert.ReferenceIdeal.Entry

end
-- ==== Proof.RefRow.lean ====
/-
  The reference's three results, read at a row and a column.
-/
module

public import proofs.«01_k».proof.Proof.Gen.ReferenceIdeal.Frame
public import proofs.«01_k».proof.Proof.Row
public import Idealize.ShloMosaic.Lib.Pointwise

@[expose] public section

set_option maxRecDepth 16384

noncomputable section

namespace Cert.ReferenceIdeal.Whole

open Cert.ReferenceIdeal Cert.ReferenceIdeal.Gen Idealize.ShloMosaic Idealize.ShloMosaic.TcCoe Idealize.SL.Sem
open Cert.RowScale

variable (x0 : Vec Ideal S16384x4480 .bf16) (x1 x2 : Vec Ideal S1x4480 .f32)

/-- The scaled row `r`. -/
def vRow (r : Fin 16384) : Fin 4480 → EReal :=
  vR (fun k => x0 (ix2 r k)) (fun k => x1 (ix2 0 k)) (fun k => x2 (ix2 0 k))

theorem v_apply (r : Fin 16384) (k : Fin 4480) : k0_pay5 x0 x1 x2 (ix2 r k) = vRow x0 x1 x2 r k := by
  unfold vRow vR eps
  pointwise [k0_pay5]

theorem a_apply (r : Fin 16384) : k0_pay6 x0 x1 x2 (ix2 r 0) = amax (vRow x0 x1 x2 r) := by
  have h : vRow x0 x1 x2 r = fun k => k0_pay5 x0 x1 x2 (ix2 r k) := funext fun k => (v_apply x0 x1 x2 r k).symm
  rw [h]
  unfold k0_pay6 amax
  have ab : ∀ y : Ideal .f32, FloatOps.absf y = max y (-y) := fun _ => rfl
  generalize k0_pay5 x0 x1 x2 = v
  pointwise
  simp only [ab]

/-- The exponent of a row from its largest magnitude `a` and the product `X` with 1/448, on vectors. -/
theorem expo_form (c z p o : Ideal .f32) (hc : Scalar.ofBits (F := Ideal) .f32 0x3B124925#32 = c)
    (hz : Scalar.ofBits (F := Ideal) .f32 0x00000000#32 = z) (hp : Scalar.ofBits (F := Ideal) .f32 0x7F800000#32 = p)
    (ho : Scalar.ofBits (F := Ideal) .f32 0x3F800000#32 = o) (j : S16384x1.Idx) :
    k0_pay1 (k0_pay7 x0 x1 x2) (k0_pay8 x0 x1 x2) (k0_pay9 (F := Ideal)) j
      = Scalar.select (Ideal.cmp .oeq (k0_pay6 x0 x1 x2 j) z) z
          (Scalar.select (IntOp.ori (Ideal.cmp .oeq (k0_pay6 x0 x1 x2 j * c) z) (Ideal.cmp .oeq (k0_pay6 x0 x1 x2 j * c) p))
            z
            (Ideal.liftRound Int.floor (Ideal.div (Ideal.log (k0_pay6 x0 x1 x2 j * c))
              (Named.named (F := Ideal) κ "ln2" (φ := .f32) 0x3F317218#32)) + o)) := by
  unfold k0_pay1 k0_pay7 k0_pay8 k0_pay9
  rw [hc, hz, hp, ho]
  generalize k0_pay6 x0 x1 x2 = a
  generalize Named.named (F := Ideal) κ "ln2" (φ := .f32) 0x3F317218#32 = l
  simp only [selI, cmpI, mulI, addI, divI, logI, floorI, oriI, splatI]

theorem expo_of (j : S16384x1.Idx) :
    k0_pay1 (k0_pay7 x0 x1 x2) (k0_pay8 x0 x1 x2) (k0_pay9 (F := Ideal)) j
      = expoR (k0_pay6 x0 x1 x2 j) (k0_pay6 x0 x1 x2 j * c448) := by
  rw [expo_form x0 x1 x2 c448 _ _ _ c448_bits (ofB _) (ofB _) (ofB _), IdealRules.named_const.ideal_named_scalar (φ := .f32) κ "ln2" 0x3F317218#32 ((Real.log 2 : ℝ) : EReal) rfl,
    ofBits_inf, Ideal.ofBits_zero_f32, Ideal.ofBits_one_f32]
  unfold expoR expoV
  rfl

theorem expo_apply (r : Fin 16384) :
    k0_pay1 (k0_pay7 x0 x1 x2) (k0_pay8 x0 x1 x2) (k0_pay9 (F := Ideal)) (ix2 r 0)
      = expoR (amax (vRow x0 x1 x2 r)) (amax (vRow x0 x1 x2 r) * c448) := by
  rw [expo_of, a_apply]

theorem scale_of (e : FVec Ideal S16384x1 .f32) (b : IVec S16384x1 1) (z : FVec Ideal S16384x1 .f32) (j : S16384x1.Idx) :
    k0_pay2 e b z j = Ideal.exp2 (k0_pay1 e b z j) := by
  unfold k0_pay2
  generalize k0_pay1 e b z = f
  rfl

theorem codes_of (v : FVec Ideal S16384x4480 .f32) (e : FVec Ideal S16384x1 .f32) (b : IVec S16384x1 1)
    (z : FVec Ideal S16384x1 .f32) (r : Fin 16384) (k : Fin 4480) :
    k0_pay3 v e b z (ix2 r k) = clip (v (ix2 r k) * Ideal.exp2 (0 - k0_pay1 e b z (ix2 r 0))) := by
  unfold k0_pay3 clip
  generalize k0_pay1 e b z = f
  pointwise
  rfl

theorem scale_apply (r : Fin 16384) :
    k0_pay2 (k0_pay7 x0 x1 x2) (k0_pay8 x0 x1 x2) (k0_pay9 (F := Ideal)) (ix2 r 0)
      = Ideal.exp2 (expoR (amax (vRow x0 x1 x2 r)) (amax (vRow x0 x1 x2 r) * c448)) := by
  rw [scale_of, expo_apply]

theorem codes_apply (r : Fin 16384) (k : Fin 4480) :
    k0_pay3 (k0_pay5 x0 x1 x2) (k0_pay7 x0 x1 x2) (k0_pay8 x0 x1 x2) (k0_pay9 (F := Ideal)) (ix2 r k)
      = clip (vRow x0 x1 x2 r k
          * Ideal.exp2 (0 - expoR (amax (vRow x0 x1 x2 r)) (amax (vRow x0 x1 x2 r) * c448))) := by
  rw [codes_of, expo_apply, v_apply]

theorem prod_apply (v : FVec Ideal S16384x4480 .f32) (e : FVec Ideal S16384x1 .f32) (b : IVec S16384x1 1)
    (z : FVec Ideal S16384x1 .f32) (x3 : Vec Ideal S4480x6016 .fp8e4m3) (x4 : Vec Ideal S1x6016 .f32)
    (r : Fin 16384) (n : Fin 6016) :
    k0_pay4 v e b z x3 x4 (ix2 r n)
      = out (fun k => k0_pay3 v e b z (ix2 r k)) (fun k => x3 (ix2 k n)) (k0_pay2 e b z (ix2 r 0)) (x4 (ix2 0 n)) := by
  unfold k0_pay4 out
  generalize k0_pay3 v e b z = q
  generalize k0_pay2 e b z = f
  pointwise

end Cert.ReferenceIdeal.Whole

end
-- ==== Proof.RefArrays.lean ====
/-
  The reference's three result arrays after the run, read at an index: its one block is the whole array.
-/
module

public import proofs.«01_k».proof.Proof.Gen.ReferenceIdeal.Value
public import proofs.«01_k».proof.Proof.RefRow

@[expose] public section

set_option maxRecDepth 16384

noncomputable section

namespace Cert.ReferenceIdeal.Arrays

open Cert.ReferenceIdeal Cert.ReferenceIdeal.Gen Idealize.ShloMosaic Idealize.ShloMosaic.TcCoe Idealize.SL.Sem
open Cert.RowScale

variable (m : (ℓ : Loc nD τ sig) → Buf (Elt Ideal) ℓ) (c : Dev nD)

theorem hz : (![0, 0] : Fin 2 → Nat) = fun _ => 0 := funext fun a => by fin_cases a <;> rfl

/-- The one point. -/
abbrev t0 : Fin cfg0.N := ⟨0, by decide⟩

/-- Every window is its whole array. -/
theorem idx_facts : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem x_eq (t : Fin cfg0.N) : iblk m c 0 t = V m c main_v0 := by
  obtain ⟨⟨e0, e1⟩, -⟩ := idx_facts t
  funext z
  show V m c main_v0 (((cfg0.win 0).blk t).view.emb z) = _
  congr 1
  funext a; apply Fin.ext
  match a with
  | ⟨0, _⟩ => show win0_0.index t (0 : Fin 2) * 16384 + 1 * (z 0).val = (z 0).val; omega
  | ⟨1, _⟩ => show win0_0.index t (1 : Fin 2) * 4480 + 1 * (z 1).val = (z 1).val; omega

theorem gamma_eq (t : Fin cfg0.N) : iblk m c 1 t = V m c main_v1 := by
  obtain ⟨-, ⟨e0, e1⟩, -⟩ := idx_facts t
  funext z
  show V m c main_v1 (((cfg0.win 1).blk t).view.emb z) = _
  congr 1
  funext a; apply Fin.ext
  match a with
  | ⟨0, _⟩ => show win0_1.index t (0 : Fin 2) * 1 + 1 * (z 0).val = (z 0).val; omega
  | ⟨1, _⟩ => show win0_1.index t (1 : Fin 2) * 4480 + 1 * (z 1).val = (z 1).val; omega

theorem smooth_eq (t : Fin cfg0.N) : iblk m c 2 t = V m c main_v2 := by
  obtain ⟨-, -, ⟨e0, e1⟩, -⟩ := idx_facts t
  funext z
  show V m c main_v2 (((cfg0.win 2).blk t).view.emb z) = _
  congr 1
  funext a; apply Fin.ext
  match a with
  | ⟨0, _⟩ => show win0_2.index t (0 : Fin 2) * 1 + 1 * (z 0).val = (z 0).val; omega
  | ⟨1, _⟩ => show win0_2.index t (1 : Fin 2) * 4480 + 1 * (z 1).val = (z 1).val; omega

theorem w_eq (t : Fin cfg0.N) : iblk m c 3 t = V m c main_arg3 := by
  obtain ⟨-, -, -, ⟨e0, e1⟩, -⟩ := idx_facts t
  funext z
  show V m c main_arg3 (((cfg0.win 3).blk t).view.emb z) = _
  congr 1
  funext a; apply Fin.ext
  match a with
  | ⟨0, _⟩ => show win0_3.index t (0 : Fin 2) * 4480 + 1 * (z 0).val = (z 0).val; omega
  | ⟨1, _⟩ => show win0_3.index t (1 : Fin 2) * 6016 + 1 * (z 1).val = (z 1).val; omega

theorem ws_eq (t : Fin cfg0.N) : iblk m c 4 t = V m c main_v3 := by
  obtain ⟨-, -, -, -, ⟨e0, e1⟩, -⟩ := idx_facts t
  funext z
  show V m c main_v3 (((cfg0.win 4).blk t).view.emb z) = _
  congr 1
  funext a; apply Fin.ext
  match a with
  | ⟨0, _⟩ => show win0_4.index t (0 : Fin 2) * 1 + 1 * (z 0).val = (z 0).val; omega
  | ⟨1, _⟩ => show win0_4.index t (1 : Fin 2) * 6016 + 1 * (z 1).val = (z 1).val; omega

theorem emb5 (t : Fin cfg0.N) (r : Fin 16384) (n : Fin 6016) :
    ((cfg0.win 5).blk t).view.emb (ix2 r n) = ix2 r n := by
  obtain ⟨-, -, -, -, -, ⟨e0, e1⟩, -⟩ := idx_facts t
  funext a; apply Fin.ext
  match a with
  | ⟨0, _⟩ => show win0_5.index t (0 : Fin 2) * 16384 + 1 * r.val = r.val; omega
  | ⟨1, _⟩ => show win0_5.index t (1 : Fin 2) * 6016 + 1 * n.val = n.val; omega

theorem emb6 (t : Fin cfg0.N) (r : Fin 16384) (k : Fin 4480) :
    ((cfg0.win 6).blk t).view.emb (ix2 r k) = ix2 r k := by
  obtain ⟨-, -, -, -, -, -, ⟨e0, e1⟩, -⟩ := idx_facts t
  funext a; apply Fin.ext
  match a with
  | ⟨0, _⟩ => show win0_6.index t (0 : Fin 2) * 16384 + 1 * r.val = r.val; omega
  | ⟨1, _⟩ => show win0_6.index t (1 : Fin 2) * 4480 + 1 * k.val = k.val; omega

theorem emb7 (t : Fin cfg0.N) (r : Fin 16384) :
    ((cfg0.win 7).blk t).view.emb (ix2 r 0) = ix2 r 0 := by
  obtain ⟨-, -, -, -, -, -, -, ⟨e0, e1⟩⟩ := idx_facts t
  funext a; apply Fin.ext
  match a with
  | ⟨0, _⟩ => show win0_7.index t (0 : Fin 2) * 16384 + 1 * r.val = r.val; omega
  | ⟨1, _⟩ => show win0_7.index t (1 : Fin 2) * 1 + 1 * 0 = 0; omega

/-! ## An array whose one block is known -/

theorem at7 (A P : Vec Ideal S16384x1 .f32) (t : Fin cfg0.N)
    (h : ((cfg0.win 7).blk t).view.read (Elt Ideal) A = (cfg0.win 7).cut (grid0.coords t) P) (r : Fin 16384) :
    A (ix2 r 0) = P (ix2 r 0) := by
  have h' : A (((cfg0.win 7).blk t).view.emb (ix2 r 0)) = P (ix2 r 0) := congrFun h (ix2 r 0)
  rw [emb7] at h'
  exact h'

theorem at6 (A P : Vec Ideal S16384x4480 .fp8e4m3) (t : Fin cfg0.N)
    (h : ((cfg0.win 6).blk t).view.read (Elt Ideal) A = (cfg0.win 6).cut (grid0.coords t) P) (r : Fin 16384) (k : Fin 4480) :
    A (ix2 r k) = P (ix2 r k) := by
  have h' : A (((cfg0.win 6).blk t).view.emb (ix2 r k)) = P (ix2 r k) := congrFun h (ix2 r k)
  rw [emb6] at h'
  exact h'

theorem at5 (A P : Vec Ideal S16384x6016 .bf16) (t : Fin cfg0.N)
    (h : ((cfg0.win 5).blk t).view.read (Elt Ideal) A = (cfg0.win 5).cut (grid0.coords t) P) (r : Fin 16384) (n : Fin 6016) :
    A (ix2 r n) = P (ix2 r n) := by
  have h' : A (((cfg0.win 5).blk t).view.emb (ix2 r n)) = P (ix2 r n) := congrFun h (ix2 r n)
  rw [emb5] at h'
  exact h'

/-! ## The three stores -/

variable (x0 : Vec Ideal S16384x4480 .bf16) (x1 x2 : Vec Ideal S1x4480 .f32) (x3 : Vec Ideal S4480x6016 .fp8e4m3)
  (x4 : Vec Ideal S1x6016 .f32)

theorem out7_eq : out0_7 x0 x1 x2 x3 x4 = k0_pay2 (k0_pay7 x0 x1 x2) (k0_pay8 x0 x1 x2) (k0_pay9 (F := Ideal)) := by
  unfold out0_7 k0_pay11 k0_pay12 k0_pay13
  rw [View.canon_unit_zero hz, View.ld_unit_zero hz, View.ld_unit_zero hz, View.ld_unit_zero hz]

theorem out6_eq : out0_6 x0 x1 x2 x3 x4
    = k0_pay3 (k0_pay5 x0 x1 x2) (k0_pay7 x0 x1 x2) (k0_pay8 x0 x1 x2) (k0_pay9 (F := Ideal)) := by
  unfold out0_6 k0_pay10 k0_pay11 k0_pay12 k0_pay13
  rw [View.canon_unit_zero hz, View.ld_unit_zero hz, View.ld_unit_zero hz, View.ld_unit_zero hz]

theorem out5_eq : out0_5 x0 x1 x2 x3 x4
    = k0_pay4 (k0_pay5 x0 x1 x2) (k0_pay7 x0 x1 x2) (k0_pay8 x0 x1 x2) (k0_pay9 (F := Ideal)) x3 x4 := by
  unfold out0_5 k0_pay10 k0_pay11 k0_pay12 k0_pay13
  rw [View.canon_unit_zero hz, View.ld_unit_zero hz, View.ld_unit_zero hz, View.ld_unit_zero hz, View.ld_unit_zero hz,
    View.ld_unit_zero hz]

/-! ## The results -/

/-- The scaled row `R` of the array. -/
def vRow (R : Fin 16384) : Fin 4480 → EReal :=
  vR (fun k => V m c main_v0 (ix2 R k)) (fun k => V m c main_v1 (ix2 0 k)) (fun k => V m c main_v2 (ix2 0 k))

theorem vRow_whole (R : Fin 16384) : Whole.vRow (V m c main_v0) (V m c main_v1) (V m c main_v2) R = vRow m c R := rfl

theorem scale_at (R : Fin 16384) :
    (dats m 0 c).arrAt 7 cfg0.N (ix2 R 0) = Ideal.exp2 (expoR (amax (vRow m c R)) (amax (vRow m c R) * c448)) := by
  have h := Value.blocks7 m c t0 (flush0_7 t0)
  rw [Value.flushed7, out7_eq, x_eq, gamma_eq, smooth_eq] at h
  rw [← vRow_whole, ← Whole.scale_apply]
  exact at7 _ _ t0 h R

theorem codes_at (R : Fin 16384) (k : Fin 4480) :
    (dats m 0 c).arrAt 6 cfg0.N (ix2 R k)
      = clip (vRow m c R k * Ideal.exp2 (0 - expoR (amax (vRow m c R)) (amax (vRow m c R) * c448))) := by
  have h := Value.blocks6 m c t0 (flush0_6 t0)
  rw [Value.flushed6, out6_eq, x_eq, gamma_eq, smooth_eq] at h
  rw [← vRow_whole, ← Whole.codes_apply]
  exact at6 _ _ t0 h R k

theorem prod_at (R : Fin 16384) (n : Fin 6016) :
    (dats m 0 c).arrAt 5 cfg0.N (ix2 R n)
      = out (fun k => clip (vRow m c R k * Ideal.exp2 (0 - expoR (amax (vRow m c R)) (amax (vRow m c R) * c448))))
          (fun k => V m c main_arg3 (ix2 k n)) (Ideal.exp2 (expoR (amax (vRow m c R)) (amax (vRow m c R) * c448)))
          (V m c main_v3 (ix2 0 n)) := by
  have h := Value.blocks5 m c t0 (flush0_5 t0)
  rw [Value.flushed5, out5_eq, x_eq, gamma_eq, smooth_eq, w_eq, ws_eq] at h
  have e := Whole.prod_apply (k0_pay5 (V m c main_v0) (V m c main_v1) (V m c main_v2))
    (k0_pay7 (V m c main_v0) (V m c main_v1) (V m c main_v2)) (k0_pay8 (V m c main_v0) (V m c main_v1) (V m c main_v2))
    (k0_pay9 (F := Ideal)) (V m c main_arg3) (V m c main_v3) R n
  simp only [Whole.codes_apply, Whole.scale_apply] at e
  rw [vRow_whole] at e
  rw [← e]
  exact at5 _ _ t0 h R n

end Cert.ReferenceIdeal.Arrays

end
-- ==== Proof.Pre.lean ====
/-
  The precondition, read: no smoothing factor is zero, and every row's largest magnitude fits.
-/
module

public import proofs.«01_k».proof.Proof.Gen.Pre_representable
public import proofs.«01_k».proof.Proof.Row
public import Idealize.ShloMosaic.Lib.ReduceAll
public import Idealize.ShloMosaic.Lib.Pointwise

@[expose] public section

set_option maxRecDepth 16384

noncomputable section

namespace Cert.Pre_representable.Read

open Cert.Pre_representable Cert.Pre_representable.Facts Idealize.ShloMosaic
open Cert.RowScale

/-- A constant, spread over an array, at an index. -/
theorem constI {T : Shape} (b : BitVec 32) (h : S_.BroadcastsInDim T ![]) (j : T.Idx) :
    broadcastInDim T ![] h (constant (F := Ideal) S_ .f32 b) j = Ideal.ofBits .f32 b := by
  rw [ValueIdx.broadcastInDim_scalar_apply]
  exact id rfl

theorem olt_iff {a b : EReal} : Ideal.cmp .olt a b = 1#1 ↔ a < b := by
  unfold Ideal.cmp; by_cases h : a < b <;> simp [h]

theorem oge_iff {a b : EReal} : Ideal.cmp .oge a b = 1#1 ↔ b ≤ a := by
  unfold Ideal.cmp; by_cases h : b ≤ a <;> simp [h]

theorem oeq_iff {a b : EReal} : Ideal.cmp .oeq a b = 1#1 ↔ a = b := by
  unfold Ideal.cmp; by_cases h : a = b <;> simp [h]

theorem une_iff {a b : EReal} : Ideal.cmp .une a b = 1#1 ↔ a ≠ b := by
  unfold Ideal.cmp; by_cases h : a = b <;> simp [h]

theorem andI {s : Shape} (c d : IVec s 1) (j : s.Idx) : andi c d j = IntOp.andi (c j) (d j) := id rfl

variable [Facts]

/-- The predicate's last stretch, from the factors and the column of largest magnitudes. -/
theorem part1 (s : FVec Ideal S4480 .f32) (a : FVec Ideal S8x2048x1 .f32)
    (h : fn_part1 (F := Ideal) s a = fun _ => 1#1) : (∀ k, s k ≠ 0) ∧ ∀ j, Fits (a j) := by
  have h := congrFun h ix0
  unfold fn_part1 fn_part2 at h
  dsimp only at h
  rw [andI, IntOp.andi_eq_one] at h
  obtain ⟨h1, h2⟩ := h
  haveI : Subsingleton S_.Idx := ⟨fun x y => funext fun i => i.elim0⟩
  constructor
  · intro k
    have e := Host.reduce_andi_all _ _ _ _ _ h1 k
    rw [cmpI, constI, une_iff, Ideal.ofBits_zero_f32] at e
    exact e
  · intro j
    have e := Host.reduce_andi_all _ _ _ _ _ h2 j
    rw [andI, oriI, oriI, IntOp.andi_eq_one, IntOp.ori_eq_one, IntOp.ori_eq_one, cmpI, cmpI, cmpI, cmpI, mulI, constI, constI,
      constI, constI, constI, olt_iff, oeq_iff, oeq_iff, oge_iff, Ideal.ofBits_zero_f32] at e
    exact e

variable (x : FVec Ideal S8x2048x4480 .bf16) (g s : FVec Ideal S4480 .f32)

/-- The predicate's scaled rows. -/
def scaled : FVec Ideal S8x2048x4480 .f32 :=
  Host.divf
    (mulf (mulf (extf .f32 x bitsLt_bf16_f32)
        (broadcastInDim S8x2048x4480 ![0, 1, 2] bcast_S8x2048x1_S8x2048x4480_0_1_2
          (Host.rsqrt (addf
            (Host.divf (broadcastInDim S8x2048x1 ![0, 1] bcast_S8x2048_S8x2048x1_0_1
                (Host.reduceAdd (mulf (extf .f32 x bitsLt_bf16_f32) (extf .f32 x bitsLt_bf16_f32))
                  (constant S_ .f32 0x00000000#32) reducesTo_S8x2048x4480_S8x2048_d2 h_S_))
              (broadcastInDim S8x2048x1 ![] bcast_S_S8x2048x1 (constant S_ .f32 0x458C0000#32)))
            (broadcastInDim S8x2048x1 ![] bcast_S_S8x2048x1 (constant S_ .f32 0x358637BD#32))))))
      (broadcastInDim S8x2048x4480 ![0, 1, 2] bcast_S1x1x4480_S8x2048x4480_0_1_2
        (broadcastInDim S1x1x4480 ![2] bcast_S4480_S1x1x4480_2 g)))
    (broadcastInDim S8x2048x4480 ![0, 1, 2] bcast_S1x1x4480_S8x2048x4480_0_1_2
      (broadcastInDim S1x1x4480 ![2] bcast_S4480_S1x1x4480_2 s))

/-- The largest magnitude of every row of an array, as a column. -/
def maxOf (v : FVec Ideal S8x2048x4480 .f32) : FVec Ideal S8x2048x1 .f32 :=
  broadcastInDim S8x2048x1 ![0, 1] bcast_S8x2048_S8x2048x1_0_1
    (Host.reduce FloatOps.maximumf (Host.absf v) (constant S_ .f32 0xFF800000#32) reducesTo_S8x2048x4480_S8x2048_d2 h_S_)

theorem fn_eq (w : FVec Ideal S4480x6016 .fp8e4m3) (ws : FVec Ideal S6016 .f32) :
    fn (F := Ideal) x g s w ws = fn_part1 (F := Ideal) s (maxOf (scaled x g s)) := by
  unfold fn maxOf scaled
  rfl

theorem scaled_apply (b : Fin 8) (t : Fin 2048) (k : Fin 4480) :
    scaled x g s (ix3 b t k) = vR (fun k => x (ix3 b t k)) (fun k => g (ix1 k)) (fun k => s (ix1 k)) k := by
  unfold vR eps
  pointwise [scaled]

theorem maxOf_apply (v : FVec Ideal S8x2048x4480 .f32) (b : Fin 8) (t : Fin 2048) :
    maxOf v (ix3 b t 0) = amax (fun k => v (ix3 b t k)) := by
  have ab : ∀ y : Ideal .f32, FloatOps.absf y = max y (-y) := fun _ => rfl
  unfold amax
  pointwise [maxOf]
  simp only [ab]

/-- The precondition, read at a row. -/
theorem read {w : FVec Ideal S4480x6016 .fp8e4m3} {ws : FVec Ideal S6016 .f32}
    (h : fn (F := Ideal) x g s w ws = fun _ => 1#1) :
    (∀ k : Fin 4480, s (ix1 k) ≠ 0)
      ∧ ∀ (b : Fin 8) (t : Fin 2048),
          Fits (amax (vR (fun k => x (ix3 b t k)) (fun k => g (ix1 k)) (fun k => s (ix1 k)))) := by
  rw [fn_eq] at h
  obtain ⟨h1, h2⟩ := part1 _ _ h
  refine ⟨fun k => h1 _, fun b t => ?_⟩
  have e := h2 (ix3 b t 0)
  rw [maxOf_apply, show (fun k => scaled x g s (ix3 b t k)) = _ from funext fun k => scaled_apply x g s b t k] at e
  exact e

end Cert.Pre_representable.Read

end
-- ==== Proof.Equation.lean ====
/-
  The kernel's three result arrays are the reference's, from memories that agree on the arguments and meet the
  precondition: row by row the two scaled rows are equal, so their largest magnitudes are, so the scales and the inverse
  scales are, so the codes are, and the products with them.
-/
module

public import proofs.«01_k».proof.Defs
public import proofs.«01_k».proof.Proof.KernelEntry
public import proofs.«01_k».proof.Proof.KernelArrays
public import proofs.«01_k».proof.Proof.RefEntry
public import proofs.«01_k».proof.Proof.RefArrays
public import proofs.«01_k».proof.Proof.Pre

@[expose] public section

set_option maxRecDepth 16384

noncomputable section

namespace Cert.Equation

open Idealize.ShloMosaic Idealize.ShloMosaic.TcCoe Idealize.SL.Sem
open Cert.RowScale

/-! ## Reshapes at an index -/

/-- The batch and the position of a row. -/
def bat (R : Fin 16384) : Fin 8 := ⟨R.val / 2048, by have := R.isLt; omega⟩
def pos (R : Fin 16384) : Fin 2048 := ⟨R.val % 2048, by omega⟩

theorem reshape_x (x : FVec Ideal ⟨3, ![8, 2048, 4480]⟩ .bf16)
    (h : (⟨3, ![8, 2048, 4480]⟩ : Shape).ShapeCasts ⟨2, ![16384, 4480]⟩) (R : Fin 16384) (k : Fin 4480) :
    shapeCast ⟨2, ![16384, 4480]⟩ x h (ix2 R k) = x (ix3 (bat R) (pos R) k) := by
  unfold bat pos
  pointwise

theorem reshape_g (g : FVec Ideal ⟨1, ![4480]⟩ .f32) (h : (⟨1, ![4480]⟩ : Shape).ShapeCasts ⟨2, ![1, 4480]⟩) (k : Fin 4480) :
    shapeCast ⟨2, ![1, 4480]⟩ g h (ix2 0 k) = g (ix1 k) := by
  pointwise

theorem idx_eq {n p : Nat} (i : (⟨2, ![n, p]⟩ : Shape).Idx) : ∃ (r : Fin n) (k : Fin p), i = ix2 r k :=
  ⟨i 0, i 1, funext fun a => match a with | ⟨0, _⟩ => rfl | ⟨1, _⟩ => rfl⟩

/-! ## The two programs' rows -/

section

variable [Cert.Pre_representable.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories agree on the arguments. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

/-- Row `R` of x, gamma and the smoothing factors, as the arguments hold them. -/
def xRow (R : Fin 16384) (k : Fin 4480) : EReal :=
  (m ((c.tc : Thread Cert.KernelIdeal.nD Cert.KernelIdeal.τ).loc Cert.KernelIdeal.main_arg0)
    : FVec Ideal ⟨3, ![8, 2048, 4480]⟩ .bf16) (ix3 (bat R) (pos R) k)
def gRow (k : Fin 4480) : EReal :=
  (m ((c.tc : Thread Cert.KernelIdeal.nD Cert.KernelIdeal.τ).loc Cert.KernelIdeal.main_arg1) : FVec Ideal ⟨1, ![4480]⟩ .f32) (ix1 k)
def sRow (k : Fin 4480) : EReal :=
  (m ((c.tc : Thread Cert.KernelIdeal.nD Cert.KernelIdeal.τ).loc Cert.KernelIdeal.main_arg2) : FVec Ideal ⟨1, ![4480]⟩ .f32) (ix1 k)

theorem kernel_row (R : Fin 16384) :
    Cert.KernelIdeal.Arrays.vRow m c R = vK (xRow m c R) (gRow m c) (sRow m c) := by
  unfold Cert.KernelIdeal.Arrays.vRow
  rw [Cert.KernelIdeal.Entry.V_v0, Cert.KernelIdeal.Entry.V_v1, Cert.KernelIdeal.Entry.V_v2]
  congr 1
  · exact funext fun k => reshape_x _ _ R k
  · exact funext fun k => reshape_g _ _ k
  · exact funext fun k => reshape_g _ _ k

variable {m m' c}

theorem ref_row (ha : Agree m m' c) (R : Fin 16384) :
    Cert.ReferenceIdeal.Arrays.vRow m' c R = vR (xRow m c R) (gRow m c) (sRow m c) := by
  obtain ⟨h0, h1, h2, -, -⟩ := ha
  unfold Cert.ReferenceIdeal.Arrays.vRow
  rw [Cert.ReferenceIdeal.Entry.V_v0, Cert.ReferenceIdeal.Entry.V_v1, Cert.ReferenceIdeal.Entry.V_v2, h0, h1, h2]
  congr 1
  · exact funext fun k => reshape_x _ _ R k
  · exact funext fun k => reshape_g _ _ k
  · exact funext fun k => reshape_g _ _ k

/-- Under the precondition the two scaled rows are one, and it fits. -/
theorem rows (hp : Pre_KernelIdeal_representable m) (ha : Agree m m' c) (R : Fin 16384) :
    Cert.KernelIdeal.Arrays.vRow m c R = Cert.ReferenceIdeal.Arrays.vRow m' c R
      ∧ Fits (amax (Cert.ReferenceIdeal.Arrays.vRow m' c R)) := by
  obtain ⟨hs, hf⟩ := Cert.Pre_representable.Read.read _ _ _ (hp c)
  rw [kernel_row, ref_row ha]
  exact ⟨vK_eq hs, hf (bat R) (pos R)⟩

theorem scale_same (hp : Pre_KernelIdeal_representable m) (ha : Agree m m' c) (R : Fin 16384) :
    ((Cert.KernelIdeal.Gen.dats m 0 c).arrAt 7 Cert.KernelIdeal.cfg0.N : Vec Ideal ⟨2, ![16384, 1]⟩ .f32) (ix2 R 0)
      = ((Cert.ReferenceIdeal.Gen.dats m' 0 c).arrAt 7 Cert.ReferenceIdeal.cfg0.N : Vec Ideal ⟨2, ![16384, 1]⟩ .f32) (ix2 R 0) := by
  obtain ⟨e, f⟩ := rows hp ha R
  refine (Cert.KernelIdeal.Arrays.scale_at m c R).trans (Eq.trans ?_ (Cert.ReferenceIdeal.Arrays.scale_at m' c R).symm)
  rw [e, (scale_row f).1]

theorem codes_same (hp : Pre_KernelIdeal_representable m) (ha : Agree m m' c) (R : Fin 16384) (k : Fin 4480) :
    ((Cert.KernelIdeal.Gen.dats m 0 c).arrAt 6 Cert.KernelIdeal.cfg0.N : Vec Ideal ⟨2, ![16384, 4480]⟩ .fp8e4m3) (ix2 R k)
      = ((Cert.ReferenceIdeal.Gen.dats m' 0 c).arrAt 6 Cert.ReferenceIdeal.cfg0.N : Vec Ideal ⟨2, ![16384, 4480]⟩ .fp8e4m3) (ix2 R k) := by
  obtain ⟨e, f⟩ := rows hp ha R
  refine (Cert.KernelIdeal.Arrays.codes_at m c R k).trans (Eq.trans ?_ (Cert.ReferenceIdeal.Arrays.codes_at m' c R k).symm)
  rw [e, (scale_row f).2]

theorem prod_same (hp : Pre_KernelIdeal_representable m) (ha : Agree m m' c) (R : Fin 16384) (n : Fin 6016) :
    ((Cert.KernelIdeal.Gen.dats m 0 c).arrAt 5 Cert.KernelIdeal.cfg0.N : Vec Ideal ⟨2, ![16384, 6016]⟩ .bf16) (ix2 R n)
      = ((Cert.ReferenceIdeal.Gen.dats m' 0 c).arrAt 5 Cert.ReferenceIdeal.cfg0.N : Vec Ideal ⟨2, ![16384, 6016]⟩ .bf16) (ix2 R n) := by
  obtain ⟨e, f⟩ := rows hp ha R
  obtain ⟨-, -, -, h3, h4⟩ := ha
  refine (Cert.KernelIdeal.Arrays.prod_at m c R n).trans (Eq.trans ?_ (Cert.ReferenceIdeal.Arrays.prod_at m' c R n).symm)
  rw [e, (scale_row f).1, (scale_row f).2, Cert.KernelIdeal.Gen.V_main_arg3, Cert.ReferenceIdeal.Gen.V_main_arg3,
    Cert.KernelIdeal.Entry.V_v3, Cert.ReferenceIdeal.Entry.V_v3, h3, h4]

end

end Cert.Equation

end
-- ==== Proof.lean ====
/-
  The claims, assembled: the frames as generated, the kernel's ideal reading of its one named constant, and the equality
  of the kernel's three result arrays with the reference's.
-/
module

public import proofs.«01_k».proof.Proof.Equation
public import proofs.«01_k».proof.Proof.Gen.KernelIdeal.Value
public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_representable
public import Idealize.ShloMosaic.Adequacy
public import Idealize.ShloMosaic.Init

@[expose] public section

noncomputable section

namespace Cert.Proof

open Idealize.ShloMosaic Idealize.SL.Sem Cert.Kernel

/-- From memories that agree on the arguments and meet the precondition, both programs end with the kernel's arrays. -/
theorem algebraic : algebraic_KernelIdeal_ReferenceIdeal_pre_representable (hKernelIdeal := Cert.KernelIdeal.Gen.facts)
    (hReferenceIdeal := Cert.ReferenceIdeal.Gen.facts) (hPre_representable := Cert.Pre_representable.Gen.facts) := by
  intro m g m' g' hp ha
  refine ⟨_, _, _, Cert.KernelIdeal.Value.run_blocks m g,
    (θ_run Cert.ReferenceIdeal.defs _ _).mono (fun r h c => ?_) (Cert.ReferenceIdeal.Value.run_blocks m' g')⟩
  obtain ⟨h0, h1, h2, hargs⟩ := h c
  refine ⟨h0.trans (funext fun i => ?_), h1.trans (funext fun i => ?_), h2.trans (funext fun i => ?_), hargs⟩
  · obtain ⟨R, n, rfl⟩ := Cert.Equation.idx_eq i
    exact (Cert.Equation.prod_same hp (ha c) R n).symm
  · obtain ⟨R, k, rfl⟩ := Cert.Equation.idx_eq i
    exact (Cert.Equation.codes_same hp (ha c) R k).symm
  · obtain ⟨R, z, rfl⟩ := Cert.Equation.idx_eq i
    obtain rfl : z = 0 := Subsingleton.elim _ _
    exact (Cert.Equation.scale_same hp (ha c) R).symm

/-- Everything that the certificate states. -/
theorem claim : Cert.Claim := ⟨Cert.Kernel.Gen.facts, Cert.KernelIdeal.Gen.facts, Cert.ReferenceIdeal.Gen.facts, Cert.Pre_representable.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  IdealRules.named_const.statement Cert.KernelIdeal.κ "inv_d" .f32 0x396A0EA1#32 ((1 / 4480 : ℝ) : EReal) rfl,
  algebraic⟩

end Cert.Proof

end
